-- ==== Defs.lean ====
def Pre_Kernel [hPre_slots_ok : Cert.Pre_slots_ok.Facts] (m : (ℓ : Loc Cert.Kernel.nD Cert.Kernel.τ Cert.Kernel.sig) → Buf (Elt Bits) ℓ) : Prop :=
  ∀ c : Dev Cert.Kernel.nD,
    (Cert.Pre_slots_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_slots_ok : Cert.Pre_slots_ok.Facts] (m : (ℓ : Loc Cert.KernelIdeal.nD Cert.KernelIdeal.τ Cert.KernelIdeal.sig) → Buf (Elt Ideal) ℓ) : Prop :=
  ∀ c : Dev Cert.KernelIdeal.nD,
    (Cert.Pre_slots_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_ok [hPre_slots_ok : Cert.Pre_slots_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_scans_finite [hPre_scans_finite : Cert.Pre_scans_finite.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_scans_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9)) (m ((c.tc : Thread Cert.MixOutIdeal.nD Cert.MixOutIdeal.τ).loc Cert.MixOutIdeal.main_arg10)) (m ((c.tc : Thread Cert.MixOutIdeal.nD Cert.MixOutIdeal.τ).loc Cert.MixOutIdeal.main_arg11))) = (fun _ => 1#1)

def Pre_MixOutReferenceIdeal (m : (ℓ : Loc Cert.MixOutReferenceIdeal.nD Cert.MixOutReferenceIdeal.τ Cert.MixOutReferenceIdeal.sig) → Buf (Elt Ideal) ℓ) : Prop :=
  True

def Pre_MixOutReferenceIdeal_scans_finite [hPre_scans_finite : Cert.Pre_scans_finite.Facts] (m : (ℓ : Loc Cert.MixOutReferenceIdeal.nD Cert.MixOutReferenceIdeal.τ Cert.MixOutReferenceIdeal.sig) → Buf (Elt Ideal) ℓ) : Prop :=
  ∀ c : Dev Cert.MixOutReferenceIdeal.nD,
    (Cert.Pre_scans_finite.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6)) (m ((c.tc : Thread Cert.MixOutReferenceIdeal.nD Cert.MixOutReferenceIdeal.τ).loc Cert.MixOutReferenceIdeal.main_arg7)) (m ((c.tc : Thread Cert.MixOutReferenceIdeal.nD Cert.MixOutReferenceIdeal.τ).loc Cert.MixOutReferenceIdeal.main_arg8)) (m ((c.tc : Thread Cert.MixOutReferenceIdeal.nD Cert.MixOutReferenceIdeal.τ).loc Cert.MixOutReferenceIdeal.main_arg9)) (m ((c.tc : Thread Cert.MixOutReferenceIdeal.nD Cert.MixOutReferenceIdeal.τ).loc Cert.MixOutReferenceIdeal.main_arg10)) (m ((c.tc : Thread Cert.MixOutReferenceIdeal.nD Cert.MixOutReferenceIdeal.τ).loc Cert.MixOutReferenceIdeal.main_arg11))) = (fun _ => 1#1)

def quiescent_Kernel [hKernel : Cert.Kernel.Facts] [hPre_slots_ok : Cert.Pre_slots_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_slots_ok : Cert.Pre_slots_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_slots_ok [hReferenceIdeal : Cert.ReferenceIdeal.Facts] [hPre_slots_ok : Cert.Pre_slots_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11))
      ∧ r.2.sem = fun _ => 0)

def quiescent_MixOutIdeal_pre_scans_finite [hMixOutIdeal : Cert.MixOutIdeal.Facts] [hPre_scans_finite : Cert.Pre_scans_finite.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_scans_finite m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7)
      ∧ r.2.mem ((c.tc : Thread Cert.MixOutReferenceIdeal.nD Cert.MixOutReferenceIdeal.τ).loc Cert.MixOutReferenceIdeal.main_arg8) = m ((c.tc : Thread Cert.MixOutReferenceIdeal.nD Cert.MixOutReferenceIdeal.τ).loc Cert.MixOutReferenceIdeal.main_arg8)
      ∧ r.2.mem ((c.tc : Thread Cert.MixOutReferenceIdeal.nD Cert.MixOutReferenceIdeal.τ).loc Cert.MixOutReferenceIdeal.main_arg9) = m ((c.tc : Thread Cert.MixOutReferenceIdeal.nD Cert.MixOutReferenceIdeal.τ).loc Cert.MixOutReferenceIdeal.main_arg9)
      ∧ r.2.mem ((c.tc : Thread Cert.MixOutReferenceIdeal.nD Cert.MixOutReferenceIdeal.τ).loc Cert.MixOutReferenceIdeal.main_arg10) = m ((c.tc : Thread Cert.MixOutReferenceIdeal.nD Cert.MixOutReferenceIdeal.τ).loc Cert.MixOutReferenceIdeal.main_arg10)
      ∧ r.2.mem ((c.tc : Thread Cert.MixOutReferenceIdeal.nD Cert.MixOutReferenceIdeal.τ).loc Cert.MixOutReferenceIdeal.main_arg11) = m ((c.tc : Thread Cert.MixOutReferenceIdeal.nD Cert.MixOutReferenceIdeal.τ).loc Cert.MixOutReferenceIdeal.main_arg11))
      ∧ r.2.sem = fun _ => 0)

def quiescent_MixOutReferenceIdeal_pre_scans_finite [hMixOutReferenceIdeal : Cert.MixOutReferenceIdeal.Facts] [hPre_scans_finite : Cert.Pre_scans_finite.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal_scans_finite m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7)
      ∧ r.2.mem ((c.tc : Thread Cert.MixOutReferenceIdeal.nD Cert.MixOutReferenceIdeal.τ).loc Cert.MixOutReferenceIdeal.main_arg8) = m ((c.tc : Thread Cert.MixOutReferenceIdeal.nD Cert.MixOutReferenceIdeal.τ).loc Cert.MixOutReferenceIdeal.main_arg8)
      ∧ r.2.mem ((c.tc : Thread Cert.MixOutReferenceIdeal.nD Cert.MixOutReferenceIdeal.τ).loc Cert.MixOutReferenceIdeal.main_arg9) = m ((c.tc : Thread Cert.MixOutReferenceIdeal.nD Cert.MixOutReferenceIdeal.τ).loc Cert.MixOutReferenceIdeal.main_arg9)
      ∧ r.2.mem ((c.tc : Thread Cert.MixOutReferenceIdeal.nD Cert.MixOutReferenceIdeal.τ).loc Cert.MixOutReferenceIdeal.main_arg10) = m ((c.tc : Thread Cert.MixOutReferenceIdeal.nD Cert.MixOutReferenceIdeal.τ).loc Cert.MixOutReferenceIdeal.main_arg10)
      ∧ r.2.mem ((c.tc : Thread Cert.MixOutReferenceIdeal.nD Cert.MixOutReferenceIdeal.τ).loc Cert.MixOutReferenceIdeal.main_arg11) = m ((c.tc : Thread Cert.MixOutReferenceIdeal.nD Cert.MixOutReferenceIdeal.τ).loc Cert.MixOutReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_ok : Cert.Pre_slots_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)
      ∧ m' ((c.tc : Thread Cert.MixInReferenceIdeal.nD Cert.MixInReferenceIdeal.τ).loc Cert.MixInReferenceIdeal.main_arg5) = m ((c.tc : Thread Cert.MixInIdeal.nD Cert.MixInIdeal.τ).loc Cert.MixInIdeal.main_arg5)
      ∧ m' ((c.tc : Thread Cert.MixInReferenceIdeal.nD Cert.MixInReferenceIdeal.τ).loc Cert.MixInReferenceIdeal.main_arg6) = m ((c.tc : Thread Cert.MixInIdeal.nD Cert.MixInIdeal.τ).loc Cert.MixInIdeal.main_arg6)
      ∧ m' ((c.tc : Thread Cert.MixInReferenceIdeal.nD Cert.MixInReferenceIdeal.τ).loc Cert.MixInReferenceIdeal.main_arg7) = m ((c.tc : Thread Cert.MixInIdeal.nD Cert.MixInIdeal.τ).loc Cert.MixInIdeal.main_arg7)) →
    ∃ (v0 : (c : Dev Cert.MixInIdeal.nD) → Buf (Elt Ideal) ((c.tc : Thread Cert.MixInIdeal.nD Cert.MixInIdeal.τ).loc Cert.MixInIdeal.main_v4_0)) (v1 : (c : Dev Cert.MixInIdeal.nD) → Buf (Elt Ideal) ((c.tc : Thread Cert.MixInIdeal.nD Cert.MixInIdeal.τ).loc Cert.MixInIdeal.main_v2_1)) (v2 : (c : Dev Cert.MixInIdeal.nD) → Buf (Elt Ideal) ((c.tc : Thread Cert.MixInIdeal.nD Cert.MixInIdeal.τ).loc Cert.MixInIdeal.main_v2_2)) (v3 : (c : Dev Cert.MixInIdeal.nD) → Buf (Elt Ideal) ((c.tc : Thread Cert.MixInIdeal.nD Cert.MixInIdeal.τ).loc Cert.MixInIdeal.main_v4_1)) (v4 : (c : Dev Cert.MixInIdeal.nD) → Buf (Elt Ideal) ((c.tc : Thread Cert.MixInIdeal.nD Cert.MixInIdeal.τ).loc Cert.MixInIdeal.main_v4_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v4_0) = v0 c
          ∧ r.2.mem ((c.tc : Thread Cert.MixInIdeal.nD Cert.MixInIdeal.τ).loc Cert.MixInIdeal.main_v2_1) = v1 c
          ∧ r.2.mem ((c.tc : Thread Cert.MixInIdeal.nD Cert.MixInIdeal.τ).loc Cert.MixInIdeal.main_v2_2) = v2 c
          ∧ r.2.mem ((c.tc : Thread Cert.MixInIdeal.nD Cert.MixInIdeal.τ).loc Cert.MixInIdeal.main_v4_1) = v3 c
          ∧ r.2.mem ((c.tc : Thread Cert.MixInIdeal.nD Cert.MixInIdeal.τ).loc Cert.MixInIdeal.main_v4_2) = v4 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v46) = v0 c
          ∧ r.2.mem ((c.tc : Thread Cert.MixInReferenceIdeal.nD Cert.MixInReferenceIdeal.τ).loc Cert.MixInReferenceIdeal.main_v41) = v1 c
          ∧ r.2.mem ((c.tc : Thread Cert.MixInReferenceIdeal.nD Cert.MixInReferenceIdeal.τ).loc Cert.MixInReferenceIdeal.main_v42) = v2 c
          ∧ r.2.mem ((c.tc : Thread Cert.MixInReferenceIdeal.nD Cert.MixInReferenceIdeal.τ).loc Cert.MixInReferenceIdeal.main_v44) = v3 c
          ∧ r.2.mem ((c.tc : Thread Cert.MixInReferenceIdeal.nD Cert.MixInReferenceIdeal.τ).loc Cert.MixInReferenceIdeal.main_v45) = v4 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5)
          ∧ r.2.mem ((c.tc : Thread Cert.MixInReferenceIdeal.nD Cert.MixInReferenceIdeal.τ).loc Cert.MixInReferenceIdeal.main_arg6) = m' ((c.tc : Thread Cert.MixInReferenceIdeal.nD Cert.MixInReferenceIdeal.τ).loc Cert.MixInReferenceIdeal.main_arg6)
          ∧ r.2.mem ((c.tc : Thread Cert.MixInReferenceIdeal.nD Cert.MixInReferenceIdeal.τ).loc Cert.MixInReferenceIdeal.main_arg7) = m' ((c.tc : Thread Cert.MixInReferenceIdeal.nD Cert.MixInReferenceIdeal.τ).loc Cert.MixInReferenceIdeal.main_arg7))

def preserves_MixOut_MixOutIdeal : Prop :=
  IdealRules.bf16_pack.Statement Cert.MixOutIdeal.S256x512

def algebraic_MixOutIdeal_MixOutReferenceIdeal_pre_scans_finite [hMixOutIdeal : Cert.MixOutIdeal.Facts] [hMixOutReferenceIdeal : Cert.MixOutReferenceIdeal.Facts] [hPre_scans_finite : Cert.Pre_scans_finite.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal_scans_finite m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)
      ∧ m' ((c.tc : Thread Cert.MixOutReferenceIdeal.nD Cert.MixOutReferenceIdeal.τ).loc Cert.MixOutReferenceIdeal.main_arg7) = m ((c.tc : Thread Cert.MixOutIdeal.nD Cert.MixOutIdeal.τ).loc Cert.MixOutIdeal.main_arg7)
      ∧ m' ((c.tc : Thread Cert.MixOutReferenceIdeal.nD Cert.MixOutReferenceIdeal.τ).loc Cert.MixOutReferenceIdeal.main_arg8) = m ((c.tc : Thread Cert.MixOutIdeal.nD Cert.MixOutIdeal.τ).loc Cert.MixOutIdeal.main_arg8)
      ∧ m' ((c.tc : Thread Cert.MixOutReferenceIdeal.nD Cert.MixOutReferenceIdeal.τ).loc Cert.MixOutReferenceIdeal.main_arg9) = m ((c.tc : Thread Cert.MixOutIdeal.nD Cert.MixOutIdeal.τ).loc Cert.MixOutIdeal.main_arg9)
      ∧ m' ((c.tc : Thread Cert.MixOutReferenceIdeal.nD Cert.MixOutReferenceIdeal.τ).loc Cert.MixOutReferenceIdeal.main_arg10) = m ((c.tc : Thread Cert.MixOutIdeal.nD Cert.MixOutIdeal.τ).loc Cert.MixOutIdeal.main_arg10)
      ∧ m' ((c.tc : Thread Cert.MixOutReferenceIdeal.nD Cert.MixOutReferenceIdeal.τ).loc Cert.MixOutReferenceIdeal.main_arg11) = m ((c.tc : Thread Cert.MixOutIdeal.nD Cert.MixOutIdeal.τ).loc Cert.MixOutIdeal.main_arg11)) →
    ∃ (v0 : (c : Dev Cert.MixOutIdeal.nD) → Buf (Elt Ideal) ((c.tc : Thread Cert.MixOutIdeal.nD Cert.MixOutIdeal.τ).loc Cert.MixOutIdeal.main_v12)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v12) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v37) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6)
          ∧ r.2.mem ((c.tc : Thread Cert.MixOutReferenceIdeal.nD Cert.MixOutReferenceIdeal.τ).loc Cert.MixOutReferenceIdeal.main_arg7) = m' ((c.tc : Thread Cert.MixOutReferenceIdeal.nD Cert.MixOutReferenceIdeal.τ).loc Cert.MixOutReferenceIdeal.main_arg7)
          ∧ r.2.mem ((c.tc : Thread Cert.MixOutReferenceIdeal.nD Cert.MixOutReferenceIdeal.τ).loc Cert.MixOutReferenceIdeal.main_arg8) = m' ((c.tc : Thread Cert.MixOutReferenceIdeal.nD Cert.MixOutReferenceIdeal.τ).loc Cert.MixOutReferenceIdeal.main_arg8)
          ∧ r.2.mem ((c.tc : Thread Cert.MixOutReferenceIdeal.nD Cert.MixOutReferenceIdeal.τ).loc Cert.MixOutReferenceIdeal.main_arg9) = m' ((c.tc : Thread Cert.MixOutReferenceIdeal.nD Cert.MixOutReferenceIdeal.τ).loc Cert.MixOutReferenceIdeal.main_arg9)
          ∧ r.2.mem ((c.tc : Thread Cert.MixOutReferenceIdeal.nD Cert.MixOutReferenceIdeal.τ).loc Cert.MixOutReferenceIdeal.main_arg10) = m' ((c.tc : Thread Cert.MixOutReferenceIdeal.nD Cert.MixOutReferenceIdeal.τ).loc Cert.MixOutReferenceIdeal.main_arg10)
          ∧ r.2.mem ((c.tc : Thread Cert.MixOutReferenceIdeal.nD Cert.MixOutReferenceIdeal.τ).loc Cert.MixOutReferenceIdeal.main_arg11) = m' ((c.tc : Thread Cert.MixOutReferenceIdeal.nD Cert.MixOutReferenceIdeal.τ).loc Cert.MixOutReferenceIdeal.main_arg11))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hMixIn : Cert.MixIn.Facts) (hMixInIdeal : Cert.MixInIdeal.Facts) (hMixInReferenceIdeal : Cert.MixInReferenceIdeal.Facts) (hMixOut : Cert.MixOut.Facts) (hMixOutIdeal : Cert.MixOutIdeal.Facts) (hMixOutReferenceIdeal : Cert.MixOutReferenceIdeal.Facts) (hPre_slots_ok : Cert.Pre_slots_ok.Facts) (hPre_scans_finite : Cert.Pre_scans_finite.Facts),
    quiescent_Kernel (hKernel := hKernel) (hPre_slots_ok := hPre_slots_ok)
    ∧ quiescent_KernelIdeal (hKernelIdeal := hKernelIdeal) (hPre_slots_ok := hPre_slots_ok)
    ∧ quiescent_ReferenceIdeal (hReferenceIdeal := hReferenceIdeal)
    ∧ quiescent_ReferenceIdeal_pre_slots_ok (hReferenceIdeal := hReferenceIdeal) (hPre_slots_ok := hPre_slots_ok)
    ∧ quiescent_Norm (hNorm := hNorm)
    ∧ quiescent_NormIdeal (hNormIdeal := hNormIdeal)
    ∧ quiescent_NormReferenceIdeal (hNormReferenceIdeal := hNormReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_MixOut (hMixOut := hMixOut)
    ∧ quiescent_MixOutIdeal (hMixOutIdeal := hMixOutIdeal)
    ∧ quiescent_MixOutIdeal_pre_scans_finite (hMixOutIdeal := hMixOutIdeal) (hPre_scans_finite := hPre_scans_finite)
    ∧ quiescent_MixOutReferenceIdeal (hMixOutReferenceIdeal := hMixOutReferenceIdeal)
    ∧ quiescent_MixOutReferenceIdeal_pre_scans_finite (hMixOutReferenceIdeal := hMixOutReferenceIdeal) (hPre_scans_finite := hPre_scans_finite)
    ∧ preserves_Kernel_KernelIdeal
    ∧ algebraic_KernelIdeal_ReferenceIdeal (hKernelIdeal := hKernelIdeal) (hReferenceIdeal := hReferenceIdeal) (hPre_slots_ok := hPre_slots_ok)
    ∧ preserves_Norm_NormIdeal
    ∧ algebraic_NormIdeal_NormReferenceIdeal (hNormIdeal := hNormIdeal) (hNormReferenceIdeal := hNormReferenceIdeal)
    ∧ preserves_MixIn_MixInIdeal
    ∧ algebraic_MixInIdeal_MixInReferenceIdeal (hMixInIdeal := hMixInIdeal) (hMixInReferenceIdeal := hMixInReferenceIdeal)
    ∧ preserves_MixOut_MixOutIdeal
    ∧ algebraic_MixOutIdeal_MixOutReferenceIdeal_pre_scans_finite (hMixOutIdeal := hMixOutIdeal) (hMixOutReferenceIdeal := hMixOutReferenceIdeal) (hPre_scans_finite := hPre_scans_finite)
-- ==== Pre_scans_finite.lean ====
abbrev S2x16640x512 : Shape := ⟨3, ![2, 16640, 512]⟩
abbrev S2x16384x256 : Shape := ⟨3, ![2, 16384, 256]⟩
abbrev S2x16384x1024 : Shape := ⟨3, ![2, 16384, 1024]⟩
abbrev S512 : Shape := ⟨1, ![512]⟩
abbrev S1024x1024 : Shape := ⟨2, ![1024, 1024]⟩
abbrev S2x1x1024 : Shape := ⟨3, ![2, 1, 1024]⟩
abbrev S_ : Shape := ⟨0, ![]⟩

class Facts : Prop where
  bcast_S_S2x16640x512 : S_.BroadcastsInDim S2x16640x512 (![] : Fin 0 → Fin S2x16640x512.rank)
  reducesTo_S2x16640x512_S_d0_1_2 : S2x16640x512.ReducesTo [0, 1, 2] S_
  h_S_ : 0 < S_.numel

variable [Facts]

def fn {F : FTy → Type} [FloatOps F] (main_arg0 : FVec F S2x16640x512 .f32) (main_arg1 : FVec F S2x16640x512 .f32) (main_arg2 : FVec F S2x16640x512 .f32) (main_arg3 : FVec F S2x16640x512 .f32) (main_arg4 : FVec F S2x16640x512 .f32) (main_arg5 : FVec F S2x16384x256 .f32) (main_arg6 : FVec F S2x16384x256 .f32) (main_arg7 : FVec F S2x16384x1024 .f32) (main_arg8 : FVec F S512 .f32) (main_arg9 : FVec F S512 .f32) (main_arg10 : FVec F S1024x1024 .f32) (main_arg11 : FVec F S2x1x1024 .f32) : IVec S_ 1 :=
  let main_v0 : FVec F S2x16640x512 .f32 := Host.absf main_arg0
  let main_cst : FVec F S_ .f32 := constant S_ .f32 0x7F800000#32
  let main_v1 : FVec F S2x16640x512 .f32 := broadcastInDim S2x16640x512 ![] bcast_S_S2x16640x512 main_cst
  let main_v2 : IVec S2x16640x512 1 := cmpf .olt main_v0 main_v1
  let main_c : IVec S_ 1 := constantI S_ 1 1#1
  let main_v3 : IVec S_ 1 := (fun x v => Host.reduce IntOp.andi x v reducesTo_S2x16640x512_S_d0_1_2 h_S_) main_v2 main_c
  let main_v4 : FVec F S2x16640x512 .f32 := Host.absf main_arg1
  let main_cst_0 : FVec F S_ .f32 := constant S_ .f32 0x7F800000#32
  let main_v5 : FVec F S2x16640x512 .f32 := broadcastInDim S2x16640x512 ![] bcast_S_S2x16640x512 main_cst_0
  let main_v6 : IVec S2x16640x512 1 := cmpf .olt main_v4 main_v5
  let main_c_1 : IVec S_ 1 := constantI S_ 1 1#1
  let main_v7 : IVec S_ 1 := (fun x v => Host.reduce IntOp.andi x v reducesTo_S2x16640x512_S_d0_1_2 h_S_) main_v6 main_c_1
  let main_v8 : IVec S_ 1 := andi main_v3 main_v7
  main_v8
-- ==== Pre_slots_ok.lean ====
abbrev S2x16384x1024 : Shape := ⟨3, ![2, 16384, 1024]⟩
abbrev S2x16x1x16384 : Shape := ⟨4, ![2, 16, 1, 16384]⟩
abbrev S2048 : Shape := ⟨1, ![2048]⟩
abbrev S16x1024x1024 : Shape := ⟨3, ![16, 1024, 1024]⟩
abbrev S2x16x64x1 : Shape := ⟨4, ![2, 16, 64, 1]⟩
abbrev S2x16x64x256 : Shape := ⟨4, ![2, 16, 64, 256]⟩
abbrev S_ : Shape := ⟨0, ![]⟩

class Facts : Prop where
  shapeCasts_S2048_S2x16x64x1 : S2048.ShapeCasts S2x16x64x1
  bcast_S2x16x64x1_S2x16x64x256_0_1_2_3 : S2x16x64x1.BroadcastsInDim S2x16x64x256 (![0, 1, 2, 3] : Fin 4 → Fin S2x16x64x256.rank)
  shapeCasts_S2x16x1x16384_S2x16x64x256 : S2x16x1x16384.ShapeCasts S2x16x64x256
  bcast_S_S2048 : S_.BroadcastsInDim S2048 (![] : Fin 0 → Fin S2048.rank)
  reducesTo_S2048_S_d0 : S2048.ReducesTo [0] S_
  h_S_ : 0 < S_.numel
  bcast_S_S2x16x64x256 : S_.BroadcastsInDim S2x16x64x256 (![] : Fin 0 → Fin S2x16x64x256.rank)
  reducesTo_S2x16x64x256_S_d0_1_2_3 : S2x16x64x256.ReducesTo [0, 1, 2, 3] S_

variable [Facts]

def fn_part1 {F : FTy → Type} [FloatOps F] (main_v8 : IVec S_ 1) (main_v17 : IVec S_ 1) : IVec S_ 1 :=
  let main_v18 : IVec S_ 1 := andi main_v8 main_v17
  main_v18

def fn {F : FTy → Type} [FloatOps F] (main_arg0 : FVec F S2x16384x1024 .bf16) (main_arg1 : IVec S2x16x1x16384 32) (main_arg2 : IVec S2048 32) (main_arg3 : FVec F S16x1024x1024 .bf16) (main_arg4 : FVec F S16x1024x1024 .bf16) (main_arg5 : FVec F S16x1024x1024 .bf16) : IVec S_ 1 :=
  let main_v0 : IVec S2x16x64x1 32 := shapeCast S2x16x64x1 main_arg2 shapeCasts_S2048_S2x16x64x1
  let main_v1 : IVec S2x16x64x256 32 := broadcastInDim S2x16x64x256 ![0, 1, 2, 3] bcast_S2x16x64x1_S2x16x64x256_0_1_2_3 main_v0
  let main_v2 : IVec S2x16x64x256 32 := shapeCast S2x16x64x256 main_arg1 shapeCasts_S2x16x1x16384_S2x16x64x256
  let main_c : IVec S_ 32 := constantI S_ 32 0#32
  let main_v3 : IVec S2048 32 := broadcastInDim S2048 ![] bcast_S_S2048 main_c
  let main_v4 : IVec S2048 1 := cmpi .sge main_arg2 main_v3
  let main_c_0 : IVec S_ 32 := constantI S_ 32 2048#32
  let main_v5 : IVec S2048 32 := broadcastInDim S2048 ![] bcast_S_S2048 main_c_0
  let main_v6 : IVec S2048 1 := cmpi .sle main_arg2 main_v5
  let main_v7 : IVec S2048 1 := andi main_v4 main_v6
  let main_c_1 : IVec S_ 1 := constantI S_ 1 1#1
  let main_v8 : IVec S_ 1 := (fun x v => Host.reduce IntOp.andi x v reducesTo_S2048_S_d0 h_S_) main_v7 main_c_1
  let main_c_2 : IVec S_ 32 := constantI S_ 32 0#32
  let main_v9 : IVec S2x16x64x256 32 := broadcastInDim S2x16x64x256 ![] bcast_S_S2x16x64x256 main_c_2
  let main_v10 : IVec S2x16x64x256 1 := cmpi .slt main_v2 main_v9
  let main_v11 : IVec S2x16x64x256 1 := cmpi .sge main_v2 main_v1
  let main_c_3 : IVec S_ 32 := constantI S_ 32 256#32
  let main_v12 : IVec S2x16x64x256 32 := broadcastInDim S2x16x64x256 ![] bcast_S_S2x16x64x256 main_c_3
  let main_v13 : IVec S2x16x64x256 32 := addi main_v1 main_v12
  let main_v14 : IVec S2x16x64x256 1 := cmpi .slt main_v2 main_v13
  let main_v15 : IVec S2x16x64x256 1 := andi main_v11 main_v14
  let main_v16 : IVec S2x16x64x256 1 := ori main_v10 main_v15
  let main_c_4 : IVec S_ 1 := constantI S_ 1 1#1
  let main_v17 : IVec S_ 1 := (fun x v => Host.reduce IntOp.andi x v reducesTo_S2x16x64x256_S_d0_1_2_3 h_S_) main_v16 main_c_4
  fn_part1 (F := F) main_v8 main_v17
-- ==== Kernel.lean ====
abbrev S2x16384x1024 : Shape := ⟨3, ![2, 16384, 1024]⟩
abbrev S2x16x1x16384 : Shape := ⟨4, ![2, 16, 1, 16384]⟩
abbrev S2048 : Shape := ⟨1, ![2048]⟩
abbrev S16x1024x1024 : Shape := ⟨3, ![16, 1024, 1024]⟩
abbrev S2x16x2320x1024 : Shape := ⟨4, ![2, 16, 2320, 1024]⟩
abbrev S1x2048x1024 : Shape := ⟨3, ![1, 2048, 1024]⟩
abbrev S1x1x1x2048 : Shape := ⟨4, ![1, 1, 1, 2048]⟩
abbrev S1x1024x1024 : Shape := ⟨3, ![1, 1024, 1024]⟩
abbrev S1x1x2320x1024 : Shape := ⟨4, ![1, 1, 2320, 1024]⟩
abbrev S2320x1024 : Shape := ⟨2, ![2320, 1024]⟩
abbrev S1x1x1x256 : Shape := ⟨4, ![1, 1, 1, 256]⟩
abbrev S1x256 : Shape := ⟨2, ![1, 256]⟩
abbrev S1 : Shape := ⟨1, ![1]⟩
abbrev S272x256 : Shape := ⟨2, ![272, 256]⟩
abbrev S272x1024 : Shape := ⟨2, ![272, 1024]⟩
abbrev S1x256x1024 : Shape := ⟨3, ![1, 256, 1024]⟩
abbrev S256x1024 : Shape := ⟨2, ![256, 1024]⟩
abbrev S512x1024 : Shape := ⟨2, ![512, 1024]⟩
abbrev S1024x1024 : Shape := ⟨2, ![1024, 1024]⟩
abbrev S1x1x512x1024 : Shape := ⟨4, ![1, 1, 512, 1024]⟩
abbrev S1x1x272x1024 : Shape := ⟨4, ![1, 1, 272, 1024]⟩

abbrev nBuf : Space → Nat
  | .hbm => 6
  | .vmem => 13
  | .smem => 1
  | _ => 0

abbrev bufTy : (tb : Table) → Fin (tcTables nBuf tb) → BufTy
  | .hbm, ⟨0, _⟩ => ⟨S2x16384x1024, .bf16⟩
  | .hbm, ⟨1, _⟩ => ⟨S2x16x1x16384, .i32⟩
  | .hbm, ⟨2, _⟩ => ⟨S16x1024x1024, .bf16⟩
  | .hbm, ⟨3, _⟩ => ⟨S16x1024x1024, .bf16⟩
  | .hbm, ⟨4, _⟩ => ⟨S16x1024x1024, .bf16⟩
  | .hbm, ⟨5, _⟩ => ⟨S2x16x2320x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1x1x2048, .i32⟩
  | .local _ .vmem, ⟨3, _⟩ => ⟨S1x1x1x2048, .i32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1x2320x1024, .bf16⟩
  | .local _ .vmem, ⟨11, _⟩ => ⟨S1x1x2320x1024, .bf16⟩
  | .local _ .vmem, ⟨12, _⟩ => ⟨S2320x1024, .f32⟩
  | .local _ .smem, ⟨0, _⟩ => ⟨S2048, .i32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 8], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c8_i32 : BitVec 32 := 8#32
  let v7 : BitVec 32 := Scalar.muli v6 c8_i32
  let arg2 : BitVec 32 := BitVec.ofNat 32 (i 2).val
  let v8 : BitVec 32 := Scalar.addi v7 arg2
  let c8_i32_4 : BitVec 32 := 8#32
  let v9 : BitVec 32 := Scalar.muli v8 c8_i32_4
  let c0_i32_5 : BitVec 32 := 0#32
  let v10 : BitVec 32 := Scalar.addi v9 c0_i32_5
  let v11 : Index := Scalar.indexCast v10
  ![v11.toNat]
def k0_mult1 (v12 : BitVec 32) : BitVec 32 :=
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let c16_i32_12 : BitVec 32 := 16#32
  let v30 : BitVec 32 := Scalar.muli v29 c16_i32_12
  v30

def k0_off2 (v12 : BitVec 32) : Fin 2 → Nat :=
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c16_i32_6 : BitVec 32 := 16#32
  let c0_i32_9 : BitVec 32 := 0#32
  let v19 : BitVec 1 := Scalar.cmpi .sgt c16_i32_6 c0_i32_9
  let v20 : BitVec 32 := Scalar.extui v19
  let c0_i32_10 : BitVec 32 := 0#32
  let v21 : BitVec 1 := Scalar.cmpi .slt c16_i32_6 c0_i32_10
  let v22 : BitVec 32 := Scalar.extui v21
  let v23 : BitVec 32 := Scalar.subi v20 v22
  let v24 : BitVec 1 := Scalar.cmpi .ne v18 v23
  let v25 : BitVec 32 := Scalar.remsi v12 c16_i32_6
  let c0_i32_11 : BitVec 32 := 0#32
  let v26 : BitVec 1 := Scalar.cmpi .ne v25 c0_i32_11
  let v27 : BitVec 1 := Scalar.andi v24 v26
  let v13 : BitVec 32 := Scalar.divsi v12 c16_i32_6
  let c1_i32 : BitVec 32 := 1#32
  let v28 : BitVec 32 := Scalar.subi v13 c1_i32
  let v29 : BitVec 32 := Scalar.select v27 v28 v13
  let c16_i32_12 : BitVec 32 := 16#32
  let v30 : BitVec 32 := Scalar.muli v29 c16_i32_12
  let v31 : BitVec 32 := v30
  let v41 : Index := Scalar.indexCast v31
  let c0_14 : Index := 0#32
  ![v41.toNat, 0]

def k0_chk1 (v12 : BitVec 32) : Prop :=
  (16 ∣ (k0_mult1 v12).toNat) ∧
  (∀ a, (k0_off2 v12) a + S272x1024.size a ≤ S2320x1024.size a)
theorem k0_mult1_dvd : ∀ (v12 : BitVec 32) (k0_hw1 : k0_chk1 v12), 16 ∣ (k0_mult1 v12).toNat := fun v12 k0_hw1 => k0_hw1.1
theorem k0_off2_inb : ∀ (v12 : BitVec 32) (k0_hw1 : k0_chk1 v12), ∀ a, (k0_off2 v12) a + S272x1024.size a ≤ S2320x1024.size a := fun v12 k0_hw1 => k0_hw1.2

def k0_off3 (i : grid0.Coords) : Fin 1 → Nat :=
  let arg0 : BitVec 32 := BitVec.ofNat 32 (i 0).val
  let c16_i32_23 : BitVec 32 := 16#32
  let v53 : BitVec 32 := Scalar.muli arg0 c16_i32_23
  let arg1 : BitVec 32 := BitVec.ofNat 32 (i 1).val
  let v54 : BitVec 32 := Scalar.addi v53 arg1
  let c8_i32_24 : BitVec 32 := 8#32
  let v55 : BitVec 32 := Scalar.muli v54 c8_i32_24
  let arg2 : BitVec 32 := BitVec.ofNat 32 (i 2).val
  let v56 : BitVec 32 := Scalar.addi v55 arg2
  let c8_i32_25 : BitVec 32 := 8#32
  let v57 : BitVec 32 := Scalar.muli v56 c8_i32_25
  let c1_i32_26 : BitVec 32 := 1#32
  let v58 : BitVec 32 := Scalar.addi v57 c1_i32_26
  let v59 : Index := Scalar.indexCast v58
  ![v59.toNat]
def k0_mult2 (v60 : BitVec 32) : BitVec 32 :=
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c16_i32_27 : BitVec 32 := 16#32
  let c0_i32_30 : BitVec 32 := 0#32
  let v67 : BitVec 1 := Scalar.cmpi .sgt c16_i32_27 c0_i32_30
  let v68 : BitVec 32 := Scalar.extui v67
  let c0_i32_31 : BitVec 32 := 0#32
  let v69 : BitVec 1 := Scalar.cmpi .slt c16_i32_27 c0_i32_31
  let v70 : BitVec 32 := Scalar.extui v69
  let v71 : BitVec 32 := Scalar.subi v68 v70
  let v72 : BitVec 1 := Scalar.cmpi .ne v66 v71
  let v73 : BitVec 32 := Scalar.remsi v60 c16_i32_27
  let c0_i32_32 : BitVec 32 := 0#32
  let v74 : BitVec 1 := Scalar.cmpi .ne v73 c0_i32_32
  let v75 : BitVec 1 := Scalar.andi v72 v74
  let v61 : BitVec 32 := Scalar.divsi v60 c16_i32_27
  let c1_i32_33 : BitVec 32 := 1#32
  let v76 : BitVec 32 := Scalar.subi v61 c1_i32_33
  let v77 : BitVec 32 := Scalar.select v75 v76 v61
  let c16_i32_34 : BitVec 32 := 16#32
  let v78 : BitVec 32 := Scalar.muli v77 c16_i32_34
  v78

def k0_off4 (v60 : BitVec 32) : Fin 2 → Nat :=
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c16_i32_27 : BitVec 32 := 16#32
  let c0_i32_30 : BitVec 32 := 0#32
  let v67 : BitVec 1 := Scalar.cmpi .sgt c16_i32_27 c0_i32_30
  let v68 : BitVec 32 := Scalar.extui v67
  let c0_i32_31 : BitVec 32 := 0#32
  let v69 : BitVec 1 := Scalar.cmpi .slt c16_i32_27 c0_i32_31
  let v70 : BitVec 32 := Scalar.extui v69
  let v71 : BitVec 32 := Scalar.subi v68 v70
  let v72 : BitVec 1 := Scalar.cmpi .ne v66 v71
  let v73 : BitVec 32 := Scalar.remsi v60 c16_i32_27
  let c0_i32_32 : BitVec 32 := 0#32
  let v74 : BitVec 1 := Scalar.cmpi .ne v73 c0_i32_32
  let v75 : BitVec 1 := Scalar.andi v72 v74
  let v61 : BitVec 32 := Scalar.divsi v60 c16_i32_27
  let c1_i32_33 : BitVec 32 := 1#32
  let v76 : BitVec 32 := Scalar.subi v61 c1_i32_33
  let v77 : BitVec 32 := Scalar.select v75 v76 v61
  let c16_i32_34 : BitVec 32 := 16#32
  let v78 : BitVec 32 := Scalar.muli v77 c16_i32_34
  let v79 : BitVec 32 := v78
  let v89 : Index := Scalar.indexCast v79
  let c0_37 : Index := 0#32
  ![v89.toNat, 0]

def k0_chk2 (v60 : BitVec 32) : Prop :=
  (16 ∣ (k0_mult2 v60).toNat) ∧
  (∀ a, (k0_off4 v60) a + S272x1024.size a ≤ S2320x1024.size a)
theorem k0_mult2_dvd : ∀ (v60 : BitVec 32) (k0_hw2 : k0_chk2 v60), 16 ∣ (k0_mult2 v60).toNat := fun v60 k0_hw2 => k0_hw2.1
theorem k0_off4_inb : ∀ (v60 : BitVec 32) (k0_hw2 : k0_chk2 v60), ∀ a, (k0_off4 v60) a + S272x1024.size a ≤ S2320x1024.size a := fun v60 k0_hw2 => k0_hw2.2

def k0_off5 (i : grid0.Coords) : Fin 1 → Nat :=
  let arg0 : BitVec 32 := BitVec.ofNat 32 (i 0).val
  let c16_i32_46 : BitVec 32 := 16#32
  let v101 : BitVec 32 := Scalar.muli arg0 c16_i32_46
  let arg1 : BitVec 32 := BitVec.ofNat 32 (i 1).val
  let v102 : BitVec 32 := Scalar.addi v101 arg1
  let c8_i32_47 : BitVec 32 := 8#32
  let v103 : BitVec 32 := Scalar.muli v102 c8_i32_47
  let arg2 : BitVec 32 := BitVec.ofNat 32 (i 2).val
  let v104 : BitVec 32 := Scalar.addi v103 arg2
  let c8_i32_48 : BitVec 32 := 8#32
  let v105 : BitVec 32 := Scalar.muli v104 c8_i32_48
  let c2_i32 : BitVec 32 := 2#32
  let v106 : BitVec 32 := Scalar.addi v105 c2_i32
  let v107 : Index := Scalar.indexCast v106
  ![v107.toNat]
def k0_mult3 (v108 : BitVec 32) : BitVec 32 :=
  let c0_i32_50 : BitVec 32 := 0#32
  let v110 : BitVec 1 := Scalar.cmpi .sgt v108 c0_i32_50
  let v111 : BitVec 32 := Scalar.extui v110
  let c0_i32_51 : BitVec 32 := 0#32
  let v112 : BitVec 1 := Scalar.cmpi .slt v108 c0_i32_51
  let v113 : BitVec 32 := Scalar.extui v112
  let v114 : BitVec 32 := Scalar.subi v111 v113
  let c16_i32_49 : BitVec 32 := 16#32
  let c0_i32_52 : BitVec 32 := 0#32
  let v115 : BitVec 1 := Scalar.cmpi .sgt c16_i32_49 c0_i32_52
  let v116 : BitVec 32 := Scalar.extui v115
  let c0_i32_53 : BitVec 32 := 0#32
  let v117 : BitVec 1 := Scalar.cmpi .slt c16_i32_49 c0_i32_53
  let v118 : BitVec 32 := Scalar.extui v117
  let v119 : BitVec 32 := Scalar.subi v116 v118
  let v120 : BitVec 1 := Scalar.cmpi .ne v114 v119
  let v121 : BitVec 32 := Scalar.remsi v108 c16_i32_49
  let c0_i32_54 : BitVec 32 := 0#32
  let v122 : BitVec 1 := Scalar.cmpi .ne v121 c0_i32_54
  let v123 : BitVec 1 := Scalar.andi v120 v122
  let v109 : BitVec 32 := Scalar.divsi v108 c16_i32_49
  let c1_i32_55 : BitVec 32 := 1#32
  let v124 : BitVec 32 := Scalar.subi v109 c1_i32_55
  let v125 : BitVec 32 := Scalar.select v123 v124 v109
  let c16_i32_56 : BitVec 32 := 16#32
  let v126 : BitVec 32 := Scalar.muli v125 c16_i32_56
  v126

def k0_off6 (v108 : BitVec 32) : Fin 2 → Nat :=
  let c0_i32_50 : BitVec 32 := 0#32
  let v110 : BitVec 1 := Scalar.cmpi .sgt v108 c0_i32_50
  let v111 : BitVec 32 := Scalar.extui v110
  let c0_i32_51 : BitVec 32 := 0#32
  let v112 : BitVec 1 := Scalar.cmpi .slt v108 c0_i32_51
  let v113 : BitVec 32 := Scalar.extui v112
  let v114 : BitVec 32 := Scalar.subi v111 v113
  let c16_i32_49 : BitVec 32 := 16#32
  let c0_i32_52 : BitVec 32 := 0#32
  let v115 : BitVec 1 := Scalar.cmpi .sgt c16_i32_49 c0_i32_52
  let v116 : BitVec 32 := Scalar.extui v115
  let c0_i32_53 : BitVec 32 := 0#32
  let v117 : BitVec 1 := Scalar.cmpi .slt c16_i32_49 c0_i32_53
  let v118 : BitVec 32 := Scalar.extui v117
  let v119 : BitVec 32 := Scalar.subi v116 v118
  let v120 : BitVec 1 := Scalar.cmpi .ne v114 v119
  let v121 : BitVec 32 := Scalar.remsi v108 c16_i32_49
  let c0_i32_54 : BitVec 32 := 0#32
  let v122 : BitVec 1 := Scalar.cmpi .ne v121 c0_i32_54
  let v123 : BitVec 1 := Scalar.andi v120 v122
  let v109 : BitVec 32 := Scalar.divsi v108 c16_i32_49
  let c1_i32_55 : BitVec 32 := 1#32
  let v124 : BitVec 32 := Scalar.subi v109 c1_i32_55
  let v125 : BitVec 32 := Scalar.select v123 v124 v109
  let c16_i32_56 : BitVec 32 := 16#32
  let v126 : BitVec 32 := Scalar.muli v125 c16_i32_56
  let v127 : BitVec 32 := v126
  let v137 : Index := Scalar.indexCast v127
  let c0_59 : Index := 0#32
  ![v137.toNat, 0]

def k0_chk3 (v108 : BitVec 32) : Prop :=
  (16 ∣ (k0_mult3 v108).toNat) ∧
  (∀ a, (k0_off6 v108) a + S272x1024.size a ≤ S2320x1024.size a)
theorem k0_mult3_dvd : ∀ (v108 : BitVec 32) (k0_hw3 : k0_chk3 v108), 16 ∣ (k0_mult3 v108).toNat := fun v108 k0_hw3 => k0_hw3.1
theorem k0_off6_inb : ∀ (v108 : BitVec 32) (k0_hw3 : k0_chk3 v108), ∀ a, (k0_off6 v108) a + S272x1024.size a ≤ S2320x1024.size a := fun v108 k0_hw3 => k0_hw3.2

def k0_off7 (i : grid0.Coords) : Fin 1 → Nat :=
  let arg0 : BitVec 32 := BitVec.ofNat 32 (i 0).val
  let c16_i32_68 : BitVec 32 := 16#32
  let v149 : BitVec 32 := Scalar.muli arg0 c16_i32_68
  let arg1 : BitVec 32 := BitVec.ofNat 32 (i 1).val
  let v150 : BitVec 32 := Scalar.addi v149 arg1
  let c8_i32_69 : BitVec 32 := 8#32
  let v151 : BitVec 32 := Scalar.muli v150 c8_i32_69
  let arg2 : BitVec 32 := BitVec.ofNat 32 (i 2).val
  let v152 : BitVec 32 := Scalar.addi v151 arg2
  let c8_i32_70 : BitVec 32 := 8#32
  let v153 : BitVec 32 := Scalar.muli v152 c8_i32_70
  let c3_i32 : BitVec 32 := 3#32
  let v154 : BitVec 32 := Scalar.addi v153 c3_i32
  let v155 : Index := Scalar.indexCast v154
  ![v155.toNat]
def k0_mult4 (v156 : BitVec 32) : BitVec 32 :=
  let c0_i32_72 : BitVec 32 := 0#32
  let v158 : BitVec 1 := Scalar.cmpi .sgt v156 c0_i32_72
  let v159 : BitVec 32 := Scalar.extui v158
  let c0_i32_73 : BitVec 32 := 0#32
  let v160 : BitVec 1 := Scalar.cmpi .slt v156 c0_i32_73
  let v161 : BitVec 32 := Scalar.extui v160
  let v162 : BitVec 32 := Scalar.subi v159 v161
  let c16_i32_71 : BitVec 32 := 16#32
  let c0_i32_74 : BitVec 32 := 0#32
  let v163 : BitVec 1 := Scalar.cmpi .sgt c16_i32_71 c0_i32_74
  let v164 : BitVec 32 := Scalar.extui v163
  let c0_i32_75 : BitVec 32 := 0#32
  let v165 : BitVec 1 := Scalar.cmpi .slt c16_i32_71 c0_i32_75
  let v166 : BitVec 32 := Scalar.extui v165
  let v167 : BitVec 32 := Scalar.subi v164 v166
  let v168 : BitVec 1 := Scalar.cmpi .ne v162 v167
  let v169 : BitVec 32 := Scalar.remsi v156 c16_i32_71
  let c0_i32_76 : BitVec 32 := 0#32
  let v170 : BitVec 1 := Scalar.cmpi .ne v169 c0_i32_76
  let v171 : BitVec 1 := Scalar.andi v168 v170
  let v157 : BitVec 32 := Scalar.divsi v156 c16_i32_71
  let c1_i32_77 : BitVec 32 := 1#32
  let v172 : BitVec 32 := Scalar.subi v157 c1_i32_77
  let v173 : BitVec 32 := Scalar.select v171 v172 v157
  let c16_i32_78 : BitVec 32 := 16#32
  let v174 : BitVec 32 := Scalar.muli v173 c16_i32_78
  v174

def k0_off8 (v156 : BitVec 32) : Fin 2 → Nat :=
  let c0_i32_72 : BitVec 32 := 0#32
  let v158 : BitVec 1 := Scalar.cmpi .sgt v156 c0_i32_72
  let v159 : BitVec 32 := Scalar.extui v158
  let c0_i32_73 : BitVec 32 := 0#32
  let v160 : BitVec 1 := Scalar.cmpi .slt v156 c0_i32_73
  let v161 : BitVec 32 := Scalar.extui v160
  let v162 : BitVec 32 := Scalar.subi v159 v161
  let c16_i32_71 : BitVec 32 := 16#32
  let c0_i32_74 : BitVec 32 := 0#32
  let v163 : BitVec 1 := Scalar.cmpi .sgt c16_i32_71 c0_i32_74
  let v164 : BitVec 32 := Scalar.extui v163
  let c0_i32_75 : BitVec 32 := 0#32
  let v165 : BitVec 1 := Scalar.cmpi .slt c16_i32_71 c0_i32_75
  let v166 : BitVec 32 := Scalar.extui v165
  let v167 : BitVec 32 := Scalar.subi v164 v166
  let v168 : BitVec 1 := Scalar.cmpi .ne v162 v167
  let v169 : BitVec 32 := Scalar.remsi v156 c16_i32_71
  let c0_i32_76 : BitVec 32 := 0#32
  let v170 : BitVec 1 := Scalar.cmpi .ne v169 c0_i32_76
  let v171 : BitVec 1 := Scalar.andi v168 v170
  let v157 : BitVec 32 := Scalar.divsi v156 c16_i32_71
  let c1_i32_77 : BitVec 32 := 1#32
  let v172 : BitVec 32 := Scalar.subi v157 c1_i32_77
  let v173 : BitVec 32 := Scalar.select v171 v172 v157
  let c16_i32_78 : BitVec 32 := 16#32
  let v174 : BitVec 32 := Scalar.muli v173 c16_i32_78
  let v175 : BitVec 32 := v174
  let v185 : Index := Scalar.indexCast v175
  let c0_81 : Index := 0#32
  ![v185.toNat, 0]

def k0_chk4 (v156 : BitVec 32) : Prop :=
  (16 ∣ (k0_mult4 v156).toNat) ∧
  (∀ a, (k0_off8 v156) a + S272x1024.size a ≤ S2320x1024.size a)
theorem k0_mult4_dvd : ∀ (v156 : BitVec 32) (k0_hw4 : k0_chk4 v156), 16 ∣ (k0_mult4 v156).toNat := fun v156 k0_hw4 => k0_hw4.1
theorem k0_off8_inb : ∀ (v156 : BitVec 32) (k0_hw4 : k0_chk4 v156), ∀ a, (k0_off8 v156) a + S272x1024.size a ≤ S2320x1024.size a := fun v156 k0_hw4 => k0_hw4.2

def k0_off9 (i : grid0.Coords) : Fin 1 → Nat :=
  let arg0 : BitVec 32 := BitVec.ofNat 32 (i 0).val
  let c16_i32_90 : BitVec 32 := 16#32
  let v197 : BitVec 32 := Scalar.muli arg0 c16_i32_90
  let arg1 : BitVec 32 := BitVec.ofNat 32 (i 1).val
  let v198 : BitVec 32 := Scalar.addi v197 arg1
  let c8_i32_91 : BitVec 32 := 8#32
  let v199 : BitVec 32 := Scalar.muli v198 c8_i32_91
  let arg2 : BitVec 32 := BitVec.ofNat 32 (i 2).val
  let v200 : BitVec 32 := Scalar.addi v199 arg2
  let c8_i32_92 : BitVec 32 := 8#32
  let v201 : BitVec 32 := Scalar.muli v200 c8_i32_92
  let c4_i32 : BitVec 32 := 4#32
  let v202 : BitVec 32 := Scalar.addi v201 c4_i32
  let v203 : Index := Scalar.indexCast v202
  ![v203.toNat]
def k0_mult5 (v204 : BitVec 32) : BitVec 32 :=
  let c0_i32_94 : BitVec 32 := 0#32
  let v206 : BitVec 1 := Scalar.cmpi .sgt v204 c0_i32_94
  let v207 : BitVec 32 := Scalar.extui v206
  let c0_i32_95 : BitVec 32 := 0#32
  let v208 : BitVec 1 := Scalar.cmpi .slt v204 c0_i32_95
  let v209 : BitVec 32 := Scalar.extui v208
  let v210 : BitVec 32 := Scalar.subi v207 v209
  let c16_i32_93 : BitVec 32 := 16#32
  let c0_i32_96 : BitVec 32 := 0#32
  let v211 : BitVec 1 := Scalar.cmpi .sgt c16_i32_93 c0_i32_96
  let v212 : BitVec 32 := Scalar.extui v211
  let c0_i32_97 : BitVec 32 := 0#32
  let v213 : BitVec 1 := Scalar.cmpi .slt c16_i32_93 c0_i32_97
  let v214 : BitVec 32 := Scalar.extui v213
  let v215 : BitVec 32 := Scalar.subi v212 v214
  let v216 : BitVec 1 := Scalar.cmpi .ne v210 v215
  let v217 : BitVec 32 := Scalar.remsi v204 c16_i32_93
  let c0_i32_98 : BitVec 32 := 0#32
  let v218 : BitVec 1 := Scalar.cmpi .ne v217 c0_i32_98
  let v219 : BitVec 1 := Scalar.andi v216 v218
  let v205 : BitVec 32 := Scalar.divsi v204 c16_i32_93
  let c1_i32_99 : BitVec 32 := 1#32
  let v220 : BitVec 32 := Scalar.subi v205 c1_i32_99
  let v221 : BitVec 32 := Scalar.select v219 v220 v205
  let c16_i32_100 : BitVec 32 := 16#32
  let v222 : BitVec 32 := Scalar.muli v221 c16_i32_100
  v222

def k0_off10 (v204 : BitVec 32) : Fin 2 → Nat :=
  let c0_i32_94 : BitVec 32 := 0#32
  let v206 : BitVec 1 := Scalar.cmpi .sgt v204 c0_i32_94
  let v207 : BitVec 32 := Scalar.extui v206
  let c0_i32_95 : BitVec 32 := 0#32
  let v208 : BitVec 1 := Scalar.cmpi .slt v204 c0_i32_95
  let v209 : BitVec 32 := Scalar.extui v208
  let v210 : BitVec 32 := Scalar.subi v207 v209
  let c16_i32_93 : BitVec 32 := 16#32
  let c0_i32_96 : BitVec 32 := 0#32
  let v211 : BitVec 1 := Scalar.cmpi .sgt c16_i32_93 c0_i32_96
  let v212 : BitVec 32 := Scalar.extui v211
  let c0_i32_97 : BitVec 32 := 0#32
  let v213 : BitVec 1 := Scalar.cmpi .slt c16_i32_93 c0_i32_97
  let v214 : BitVec 32 := Scalar.extui v213
  let v215 : BitVec 32 := Scalar.subi v212 v214
  let v216 : BitVec 1 := Scalar.cmpi .ne v210 v215
  let v217 : BitVec 32 := Scalar.remsi v204 c16_i32_93
  let c0_i32_98 : BitVec 32 := 0#32
  let v218 : BitVec 1 := Scalar.cmpi .ne v217 c0_i32_98
  let v219 : BitVec 1 := Scalar.andi v216 v218
  let v205 : BitVec 32 := Scalar.divsi v204 c16_i32_93
  let c1_i32_99 : BitVec 32 := 1#32
  let v220 : BitVec 32 := Scalar.subi v205 c1_i32_99
  let v221 : BitVec 32 := Scalar.select v219 v220 v205
  let c16_i32_100 : BitVec 32 := 16#32
  let v222 : BitVec 32 := Scalar.muli v221 c16_i32_100
  let v223 : BitVec 32 := v222
  let v233 : Index := Scalar.indexCast v223
  let c0_103 : Index := 0#32
  ![v233.toNat, 0]

def k0_chk5 (v204 : BitVec 32) : Prop :=
  (16 ∣ (k0_mult5 v204).toNat) ∧
  (∀ a, (k0_off10 v204) a + S272x1024.size a ≤ S2320x1024.size a)
theorem k0_mult5_dvd : ∀ (v204 : BitVec 32) (k0_hw5 : k0_chk5 v204), 16 ∣ (k0_mult5 v204).toNat := fun v204 k0_hw5 => k0_hw5.1
theorem k0_off10_inb : ∀ (v204 : BitVec 32) (k0_hw5 : k0_chk5 v204), ∀ a, (k0_off10 v204) a + S272x1024.size a ≤ S2320x1024.size a := fun v204 k0_hw5 => k0_hw5.2

def k0_off11 (i : grid0.Coords) : Fin 1 → Nat :=
  let arg0 : BitVec 32 := BitVec.ofNat 32 (i 0).val
  let c16_i32_112 : BitVec 32 := 16#32
  let v245 : BitVec 32 := Scalar.muli arg0 c16_i32_112
  let arg1 : BitVec 32 := BitVec.ofNat 32 (i 1).val
  let v246 : BitVec 32 := Scalar.addi v245 arg1
  let c8_i32_113 : BitVec 32 := 8#32
  let v247 : BitVec 32 := Scalar.muli v246 c8_i32_113
  let arg2 : BitVec 32 := BitVec.ofNat 32 (i 2).val
  let v248 : BitVec 32 := Scalar.addi v247 arg2
  let c8_i32_114 : BitVec 32 := 8#32
  let v249 : BitVec 32 := Scalar.muli v248 c8_i32_114
  let c5_i32 : BitVec 32 := 5#32
  let v250 : BitVec 32 := Scalar.addi v249 c5_i32
  let v251 : Index := Scalar.indexCast v250
  ![v251.toNat]
def k0_mult6 (v252 : BitVec 32) : BitVec 32 :=
  let c0_i32_116 : BitVec 32 := 0#32
  let v254 : BitVec 1 := Scalar.cmpi .sgt v252 c0_i32_116
  let v255 : BitVec 32 := Scalar.extui v254
  let c0_i32_117 : BitVec 32 := 0#32
  let v256 : BitVec 1 := Scalar.cmpi .slt v252 c0_i32_117
  let v257 : BitVec 32 := Scalar.extui v256
  let v258 : BitVec 32 := Scalar.subi v255 v257
  let c16_i32_115 : BitVec 32 := 16#32
  let c0_i32_118 : BitVec 32 := 0#32
  let v259 : BitVec 1 := Scalar.cmpi .sgt c16_i32_115 c0_i32_118
  let v260 : BitVec 32 := Scalar.extui v259
  let c0_i32_119 : BitVec 32 := 0#32
  let v261 : BitVec 1 := Scalar.cmpi .slt c16_i32_115 c0_i32_119
  let v262 : BitVec 32 := Scalar.extui v261
  let v263 : BitVec 32 := Scalar.subi v260 v262
  let v264 : BitVec 1 := Scalar.cmpi .ne v258 v263
  let v265 : BitVec 32 := Scalar.remsi v252 c16_i32_115
  let c0_i32_120 : BitVec 32 := 0#32
  let v266 : BitVec 1 := Scalar.cmpi .ne v265 c0_i32_120
  let v267 : BitVec 1 := Scalar.andi v264 v266
  let v253 : BitVec 32 := Scalar.divsi v252 c16_i32_115
  let c1_i32_121 : BitVec 32 := 1#32
  let v268 : BitVec 32 := Scalar.subi v253 c1_i32_121
  let v269 : BitVec 32 := Scalar.select v267 v268 v253
  let c16_i32_122 : BitVec 32 := 16#32
  let v270 : BitVec 32 := Scalar.muli v269 c16_i32_122
  v270

def k0_off12 (v252 : BitVec 32) : Fin 2 → Nat :=
  let c0_i32_116 : BitVec 32 := 0#32
  let v254 : BitVec 1 := Scalar.cmpi .sgt v252 c0_i32_116
  let v255 : BitVec 32 := Scalar.extui v254
  let c0_i32_117 : BitVec 32 := 0#32
  let v256 : BitVec 1 := Scalar.cmpi .slt v252 c0_i32_117
  let v257 : BitVec 32 := Scalar.extui v256
  let v258 : BitVec 32 := Scalar.subi v255 v257
  let c16_i32_115 : BitVec 32 := 16#32
  let c0_i32_118 : BitVec 32 := 0#32
  let v259 : BitVec 1 := Scalar.cmpi .sgt c16_i32_115 c0_i32_118
  let v260 : BitVec 32 := Scalar.extui v259
  let c0_i32_119 : BitVec 32 := 0#32
  let v261 : BitVec 1 := Scalar.cmpi .slt c16_i32_115 c0_i32_119
  let v262 : BitVec 32 := Scalar.extui v261
  let v263 : BitVec 32 := Scalar.subi v260 v262
  let v264 : BitVec 1 := Scalar.cmpi .ne v258 v263
  let v265 : BitVec 32 := Scalar.remsi v252 c16_i32_115
  let c0_i32_120 : BitVec 32 := 0#32
  let v266 : BitVec 1 := Scalar.cmpi .ne v265 c0_i32_120
  let v267 : BitVec 1 := Scalar.andi v264 v266
  let v253 : BitVec 32 := Scalar.divsi v252 c16_i32_115
  let c1_i32_121 : BitVec 32 := 1#32
  let v268 : BitVec 32 := Scalar.subi v253 c1_i32_121
  let v269 : BitVec 32 := Scalar.select v267 v268 v253
  let c16_i32_122 : BitVec 32 := 16#32
  let v270 : BitVec 32 := Scalar.muli v269 c16_i32_122
  let v271 : BitVec 32 := v270
  let v281 : Index := Scalar.indexCast v271
  let c0_125 : Index := 0#32
  ![v281.toNat, 0]

def k0_chk6 (v252 : BitVec 32) : Prop :=
  (16 ∣ (k0_mult6 v252).toNat) ∧
  (∀ a, (k0_off12 v252) a + S272x1024.size a ≤ S2320x1024.size a)
theorem k0_mult6_dvd : ∀ (v252 : BitVec 32) (k0_hw6 : k0_chk6 v252), 16 ∣ (k0_mult6 v252).toNat := fun v252 k0_hw6 => k0_hw6.1
theorem k0_off12_inb : ∀ (v252 : BitVec 32) (k0_hw6 : k0_chk6 v252), ∀ a, (k0_off12 v252) a + S272x1024.size a ≤ S2320x1024.size a := fun v252 k0_hw6 => k0_hw6.2

def k0_off13 (i : grid0.Coords) : Fin 1 → Nat :=
  let arg0 : BitVec 32 := BitVec.ofNat 32 (i 0).val
  let c16_i32_134 : BitVec 32 := 16#32
  let v293 : BitVec 32 := Scalar.muli arg0 c16_i32_134
  let arg1 : BitVec 32 := BitVec.ofNat 32 (i 1).val
  let v294 : BitVec 32 := Scalar.addi v293 arg1
  let c8_i32_135 : BitVec 32 := 8#32
  let v295 : BitVec 32 := Scalar.muli v294 c8_i32_135
  let arg2 : BitVec 32 := BitVec.ofNat 32 (i 2).val
  let v296 : BitVec 32 := Scalar.addi v295 arg2
  let c8_i32_136 : BitVec 32 := 8#32
  let v297 : BitVec 32 := Scalar.muli v296 c8_i32_136
  let c6_i32 : BitVec 32 := 6#32
  let v298 : BitVec 32 := Scalar.addi v297 c6_i32
  let v299 : Index := Scalar.indexCast v298
  ![v299.toNat]
def k0_mult7 (v300 : BitVec 32) : BitVec 32 :=
  let c0_i32_138 : BitVec 32 := 0#32
  let v302 : BitVec 1 := Scalar.cmpi .sgt v300 c0_i32_138
  let v303 : BitVec 32 := Scalar.extui v302
  let c0_i32_139 : BitVec 32 := 0#32
  let v304 : BitVec 1 := Scalar.cmpi .slt v300 c0_i32_139
  let v305 : BitVec 32 := Scalar.extui v304
  let v306 : BitVec 32 := Scalar.subi v303 v305
  let c16_i32_137 : BitVec 32 := 16#32
  let c0_i32_140 : BitVec 32 := 0#32
  let v307 : BitVec 1 := Scalar.cmpi .sgt c16_i32_137 c0_i32_140
  let v308 : BitVec 32 := Scalar.extui v307
  let c0_i32_141 : BitVec 32 := 0#32
  let v309 : BitVec 1 := Scalar.cmpi .slt c16_i32_137 c0_i32_141
  let v310 : BitVec 32 := Scalar.extui v309
  let v311 : BitVec 32 := Scalar.subi v308 v310
  let v312 : BitVec 1 := Scalar.cmpi .ne v306 v311
  let v313 : BitVec 32 := Scalar.remsi v300 c16_i32_137
  let c0_i32_142 : BitVec 32 := 0#32
  let v314 : BitVec 1 := Scalar.cmpi .ne v313 c0_i32_142
  let v315 : BitVec 1 := Scalar.andi v312 v314
  let v301 : BitVec 32 := Scalar.divsi v300 c16_i32_137
  let c1_i32_143 : BitVec 32 := 1#32
  let v316 : BitVec 32 := Scalar.subi v301 c1_i32_143
  let v317 : BitVec 32 := Scalar.select v315 v316 v301
  let c16_i32_144 : BitVec 32 := 16#32
  let v318 : BitVec 32 := Scalar.muli v317 c16_i32_144
  v318

def k0_off14 (v300 : BitVec 32) : Fin 2 → Nat :=
  let c0_i32_138 : BitVec 32 := 0#32
  let v302 : BitVec 1 := Scalar.cmpi .sgt v300 c0_i32_138
  let v303 : BitVec 32 := Scalar.extui v302
  let c0_i32_139 : BitVec 32 := 0#32
  let v304 : BitVec 1 := Scalar.cmpi .slt v300 c0_i32_139
  let v305 : BitVec 32 := Scalar.extui v304
  let v306 : BitVec 32 := Scalar.subi v303 v305
  let c16_i32_137 : BitVec 32 := 16#32
  let c0_i32_140 : BitVec 32 := 0#32
  let v307 : BitVec 1 := Scalar.cmpi .sgt c16_i32_137 c0_i32_140
  let v308 : BitVec 32 := Scalar.extui v307
  let c0_i32_141 : BitVec 32 := 0#32
  let v309 : BitVec 1 := Scalar.cmpi .slt c16_i32_137 c0_i32_141
  let v310 : BitVec 32 := Scalar.extui v309
  let v311 : BitVec 32 := Scalar.subi v308 v310
  let v312 : BitVec 1 := Scalar.cmpi .ne v306 v311
  let v313 : BitVec 32 := Scalar.remsi v300 c16_i32_137
  let c0_i32_142 : BitVec 32 := 0#32
  let v314 : BitVec 1 := Scalar.cmpi .ne v313 c0_i32_142
  let v315 : BitVec 1 := Scalar.andi v312 v314
  let v301 : BitVec 32 := Scalar.divsi v300 c16_i32_137
  let c1_i32_143 : BitVec 32 := 1#32
  let v316 : BitVec 32 := Scalar.subi v301 c1_i32_143
  let v317 : BitVec 32 := Scalar.select v315 v316 v301
  let c16_i32_144 : BitVec 32 := 16#32
  let v318 : BitVec 32 := Scalar.muli v317 c16_i32_144
  let v319 : BitVec 32 := v318
  let v329 : Index := Scalar.indexCast v319
  let c0_147 : Index := 0#32
  ![v329.toNat, 0]

def k0_chk7 (v300 : BitVec 32) : Prop :=
  (16 ∣ (k0_mult7 v300).toNat) ∧
  (∀ a, (k0_off14 v300) a + S272x1024.size a ≤ S2320x1024.size a)
theorem k0_mult7_dvd : ∀ (v300 : BitVec 32) (k0_hw7 : k0_chk7 v300), 16 ∣ (k0_mult7 v300).toNat := fun v300 k0_hw7 => k0_hw7.1
theorem k0_off14_inb : ∀ (v300 : BitVec 32) (k0_hw7 : k0_chk7 v300), ∀ a, (k0_off14 v300) a + S272x1024.size a ≤ S2320x1024.size a := fun v300 k0_hw7 => k0_hw7.2

def k0_off15 (i : grid0.Coords) : Fin 1 → Nat :=
  let arg0 : BitVec 32 := BitVec.ofNat 32 (i 0).val
  let c16_i32_156 : BitVec 32 := 16#32
  let v341 : BitVec 32 := Scalar.muli arg0 c16_i32_156
  let arg1 : BitVec 32 := BitVec.ofNat 32 (i 1).val
  let v342 : BitVec 32 := Scalar.addi v341 arg1
  let c8_i32_157 : BitVec 32 := 8#32
  let v343 : BitVec 32 := Scalar.muli v342 c8_i32_157
  let arg2 : BitVec 32 := BitVec.ofNat 32 (i 2).val
  let v344 : BitVec 32 := Scalar.addi v343 arg2
  let c8_i32_158 : BitVec 32 := 8#32
  let v345 : BitVec 32 := Scalar.muli v344 c8_i32_158
  let c7_i32 : BitVec 32 := 7#32
  let v346 : BitVec 32 := Scalar.addi v345 c7_i32
  let v347 : Index := Scalar.indexCast v346
  ![v347.toNat]
def k0_mult8 (v348 : BitVec 32) : BitVec 32 :=
  let c0_i32_160 : BitVec 32 := 0#32
  let v350 : BitVec 1 := Scalar.cmpi .sgt v348 c0_i32_160
  let v351 : BitVec 32 := Scalar.extui v350
  let c0_i32_161 : BitVec 32 := 0#32
  let v352 : BitVec 1 := Scalar.cmpi .slt v348 c0_i32_161
  let v353 : BitVec 32 := Scalar.extui v352
  let v354 : BitVec 32 := Scalar.subi v351 v353
  let c16_i32_159 : BitVec 32 := 16#32
  let c0_i32_162 : BitVec 32 := 0#32
  let v355 : BitVec 1 := Scalar.cmpi .sgt c16_i32_159 c0_i32_162
  let v356 : BitVec 32 := Scalar.extui v355
  let c0_i32_163 : BitVec 32 := 0#32
  let v357 : BitVec 1 := Scalar.cmpi .slt c16_i32_159 c0_i32_163
  let v358 : BitVec 32 := Scalar.extui v357
  let v359 : BitVec 32 := Scalar.subi v356 v358
  let v360 : BitVec 1 := Scalar.cmpi .ne v354 v359
  let v361 : BitVec 32 := Scalar.remsi v348 c16_i32_159
  let c0_i32_164 : BitVec 32 := 0#32
  let v362 : BitVec 1 := Scalar.cmpi .ne v361 c0_i32_164
  let v363 : BitVec 1 := Scalar.andi v360 v362
  let v349 : BitVec 32 := Scalar.divsi v348 c16_i32_159
  let c1_i32_165 : BitVec 32 := 1#32
  let v364 : BitVec 32 := Scalar.subi v349 c1_i32_165
  let v365 : BitVec 32 := Scalar.select v363 v364 v349
  let c16_i32_166 : BitVec 32 := 16#32
  let v366 : BitVec 32 := Scalar.muli v365 c16_i32_166
  v366

def k0_off16 (v348 : BitVec 32) : Fin 2 → Nat :=
  let c0_i32_160 : BitVec 32 := 0#32
  let v350 : BitVec 1 := Scalar.cmpi .sgt v348 c0_i32_160
  let v351 : BitVec 32 := Scalar.extui v350
  let c0_i32_161 : BitVec 32 := 0#32
  let v352 : BitVec 1 := Scalar.cmpi .slt v348 c0_i32_161
  let v353 : BitVec 32 := Scalar.extui v352
  let v354 : BitVec 32 := Scalar.subi v351 v353
  let c16_i32_159 : BitVec 32 := 16#32
  let c0_i32_162 : BitVec 32 := 0#32
  let v355 : BitVec 1 := Scalar.cmpi .sgt c16_i32_159 c0_i32_162
  let v356 : BitVec 32 := Scalar.extui v355
  let c0_i32_163 : BitVec 32 := 0#32
  let v357 : BitVec 1 := Scalar.cmpi .slt c16_i32_159 c0_i32_163
  let v358 : BitVec 32 := Scalar.extui v357
  let v359 : BitVec 32 := Scalar.subi v356 v358
  let v360 : BitVec 1 := Scalar.cmpi .ne v354 v359
  let v361 : BitVec 32 := Scalar.remsi v348 c16_i32_159
  let c0_i32_164 : BitVec 32 := 0#32
  let v362 : BitVec 1 := Scalar.cmpi .ne v361 c0_i32_164
  let v363 : BitVec 1 := Scalar.andi v360 v362
  let v349 : BitVec 32 := Scalar.divsi v348 c16_i32_159
  let c1_i32_165 : BitVec 32 := 1#32
  let v364 : BitVec 32 := Scalar.subi v349 c1_i32_165
  let v365 : BitVec 32 := Scalar.select v363 v364 v349
  let c16_i32_166 : BitVec 32 := 16#32
  let v366 : BitVec 32 := Scalar.muli v365 c16_i32_166
  let v367 : BitVec 32 := v366
  let v377 : Index := Scalar.indexCast v367
  let c0_169 : Index := 0#32
  ![v377.toNat, 0]

def k0_chk8 (v348 : BitVec 32) : Prop :=
  (16 ∣ (k0_mult8 v348).toNat) ∧
  (∀ a, (k0_off16 v348) a + S272x1024.size a ≤ S2320x1024.size a)
theorem k0_mult8_dvd : ∀ (v348 : BitVec 32) (k0_hw8 : k0_chk8 v348), 16 ∣ (k0_mult8 v348).toNat := fun v348 k0_hw8 => k0_hw8.1
theorem k0_off16_inb : ∀ (v348 : BitVec 32) (k0_hw8 : k0_chk8 v348), ∀ a, (k0_off16 v348) a + S272x1024.size a ≤ S2320x1024.size a := fun v348 k0_hw8 => k0_hw8.2

def k0_cond2 (i : grid0.Coords) : BitVec 1 :=
  let arg2 : BitVec 32 := BitVec.ofNat 32 (i 2).val
  let c7_i32_175 : BitVec 32 := 7#32
  let v387 : BitVec 1 := Scalar.cmpi .eq arg2 c7_i32_175
  let v388 : BitVec 32 := Scalar.extui v387
  let c0_i32_176 : BitVec 32 := 0#32
  let v389 : BitVec 1 := Scalar.cmpi .ne v388 c0_i32_176
  v389

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x2320x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S2x16384x1024 : Shape := ⟨3, ![2, 16384, 1024]⟩
abbrev S2x16x1x16384 : Shape := ⟨4, ![2, 16, 1, 16384]⟩
abbrev S2048 : Shape := ⟨1, ![2048]⟩
abbrev S16x1024x1024 : Shape := ⟨3, ![16, 1024, 1024]⟩
abbrev S2x16x2048x16384 : Shape := ⟨4, ![2, 16, 2048, 16384]⟩
abbrev S_ : Shape := ⟨0, ![]⟩
abbrev S2x16x2048x1024 : Shape := ⟨4, ![2, 16, 2048, 1024]⟩
abbrev S16x1024x2x2048 : Shape := ⟨4, ![16, 1024, 2, 2048]⟩
abbrev S2x16x272x1024 : Shape := ⟨4, ![2, 16, 272, 1024]⟩
abbrev S2x16x2320x1024 : Shape := ⟨4, ![2, 16, 2320, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16x1x16384, .i32⟩
  | .hbm, ⟨2, _⟩ => ⟨S2048, .i32⟩
  | .hbm, ⟨3, _⟩ => ⟨S16x1024x1024, .bf16⟩
  | .hbm, ⟨4, _⟩ => ⟨S16x1024x1024, .bf16⟩
  | .hbm, ⟨5, _⟩ => ⟨S16x1024x1024, .bf16⟩
  | .hbm, ⟨6, _⟩ => ⟨S2x16384x1024, .f32⟩
  | .hbm, ⟨7, _⟩ => ⟨S16x1024x1024, .f32⟩
  | .hbm, ⟨8, _⟩ => ⟨S16x1024x1024, .f32⟩
  | .hbm, ⟨9, _⟩ => ⟨S16x1024x1024, .f32⟩
  | .hbm, ⟨10, _⟩ => ⟨S2x16x2048x16384, .i32⟩
  | .hbm, ⟨11, _⟩ => ⟨S2x16x2048x16384, .i32⟩
  | .hbm, ⟨12, _⟩ => ⟨S2x16x2048x16384, .i1⟩
  | .hbm, ⟨13, _⟩ => ⟨S_, .f32⟩
  | .hbm, ⟨14, _⟩ => ⟨S_, .f32⟩
  | .hbm, ⟨15, _⟩ => ⟨S2x16x2048x16384, .f32⟩
  | .hbm, ⟨16, _⟩ => ⟨S2x16x2048x16384, .f32⟩
  | .hbm, ⟨17, _⟩ => ⟨S2x16x2048x16384, .f32⟩
  | .hbm, ⟨18, _⟩ => ⟨S2x16x2048x1024, .f32⟩
  | .hbm, ⟨19, _⟩ => ⟨S16x1024x2x2048, .f32⟩
  | .hbm, ⟨20, _⟩ => ⟨S2x16x2048x1024, .f32⟩
  | .hbm, ⟨21, _⟩ => ⟨S2x16x2048x1024, .f32⟩
  | .hbm, ⟨22, _⟩ => ⟨S2x16x2048x1024, .f32⟩
  | .hbm, ⟨23, _⟩ => ⟨S_, .f32⟩
  | .hbm, ⟨24, _⟩ => ⟨S2x16x2048x1024, .f32⟩
  | .hbm, ⟨25, _⟩ => ⟨S2x16x2048x1024, .f32⟩
  | .hbm, ⟨26, _⟩ => ⟨S_, .f32⟩
  | .hbm, ⟨27, _⟩ => ⟨S2x16x2048x1024, .f32⟩
  | .hbm, ⟨28, _⟩ => ⟨S2x16x2048x1024, .f32⟩
  | .hbm, ⟨29, _⟩ => ⟨S2x16x2048x1024, .f32⟩
  | .hbm, ⟨30, _⟩ => ⟨S16x1024x2x2048, .f32⟩
  | .hbm, ⟨31, _⟩ => ⟨S2x16x2048x1024, .f32⟩
  | .hbm, ⟨32, _⟩ => ⟨S2x16x2048x1024, .f32⟩
  | .hbm, ⟨33, _⟩ => ⟨S16x1024x2x2048, .f32⟩
  | .hbm, ⟨34, _⟩ => ⟨S2x16x2048x1024, .f32⟩
  | .hbm, ⟨35, _⟩ => ⟨S_, .f32⟩
  | .hbm, ⟨36, _⟩ => ⟨S2x16x272x1024, .f32⟩
  | .hbm, ⟨37, _⟩ => ⟨S2x16x2320x1024, .f32⟩
  | .hbm, ⟨38, _⟩ => ⟨S2x16x2320x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Norm.lean ====
abbrev S2x16384x1024 : Shape := ⟨3, ![2, 16384, 1024]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1x1024, .f32⟩
  | .hbm, ⟨3, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormReferenceIdeal.lean ====
abbrev S2x16384x1024 : Shape := ⟨3, ![2, 16384, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x16384x1024, .f32⟩
  | .hbm, ⟨3, _⟩ => ⟨S_, .f32⟩
  | .hbm, ⟨4, _⟩ => ⟨S2x16384, .f32⟩
  | .hbm, ⟨5, _⟩ => ⟨S2x16384x1, .f32⟩
  | .hbm, ⟨6, _⟩ => ⟨S_, .f32⟩
  | .hbm, ⟨7, _⟩ => ⟨S2x16384x1, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S2x16384x1, .f32⟩
  | .hbm, ⟨13, _⟩ => ⟨S2x16384x1024, .f32⟩
  | .hbm, ⟨14, _⟩ => ⟨S2x16384x1024, .f32⟩
  | .hbm, ⟨15, _⟩ => ⟨S1x1x1024, .f32⟩
  | .hbm, ⟨16, _⟩ => ⟨S2x16384x1024, .f32⟩
  | .hbm, ⟨17, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MixIn.lean ====
abbrev S2x16384x1024 : Shape := ⟨3, ![2, 16384, 1024]⟩
abbrev S2x256x1024 : Shape := ⟨3, ![2, 256, 1024]⟩
abbrev S1024 : Shape := ⟨1, ![1024]⟩
abbrev S2x1x1024 : Shape := ⟨3, ![2, 1, 1024]⟩
abbrev S1024x2304 : Shape := ⟨2, ![1024, 2304]⟩
abbrev S1x1024 : Shape := ⟨2, ![1, 1024]⟩
abbrev S2x16640x1792 : Shape := ⟨3, ![2, 16640, 1792]⟩
abbrev S2x16384x256 : Shape := ⟨3, ![2, 16384, 256]⟩
abbrev S1x256x1024 : Shape := ⟨3, ![1, 256, 1024]⟩
abbrev S1x1x1024 : Shape := ⟨3, ![1, 1, 1024]⟩
abbrev S1x256x1792 : Shape := ⟨3, ![1, 256, 1792]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x2304 : Shape := ⟨2, ![256, 2304]⟩
abbrev S256x1792 : Shape := ⟨2, ![256, 1792]⟩
abbrev S256x256 : Shape := ⟨2, ![256, 256]⟩
abbrev S2x256x256 : Shape := ⟨3, ![2, 256, 256]⟩

abbrev nBuf : Space → Nat
  | .hbm => 17
  | .vmem => 28
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S1024x2304, .f32⟩
  | .hbm, ⟨8, _⟩ => ⟨S1024x2304, .bf16⟩
  | .hbm, ⟨9, _⟩ => ⟨S1x1024, .f32⟩
  | .hbm, ⟨10, _⟩ => ⟨S2x16640x1792, .f32⟩
  | .hbm, ⟨11, _⟩ => ⟨S2x16384x256, .f32⟩
  | .hbm, ⟨12, _⟩ => ⟨S2x16384x256, .f32⟩
  | .hbm, ⟨13, _⟩ => ⟨S1x1024, .f32⟩
  | .hbm, ⟨14, _⟩ => ⟨S2x16640x1792, .f32⟩
  | .hbm, ⟨15, _⟩ => ⟨S2x256x256, .f32⟩
  | .hbm, ⟨16, _⟩ => ⟨S2x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2304, .bf16⟩
  | .local _ .vmem, ⟨8, _⟩ => ⟨S1x256x1792, .f32⟩
  | .local _ .vmem, ⟨9, _⟩ => ⟨S1x256x1792, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x1024, .f32⟩
  | .local _ .vmem, ⟨15, _⟩ => ⟨S1x256x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1024x2304, .bf16⟩
  | .local _ .vmem, ⟨22, _⟩ => ⟨S1x256x1792, .f32⟩
  | .local _ .vmem, ⟨23, _⟩ => ⟨S1x256x1792, .f32⟩
  | .local _ .vmem, ⟨24, _⟩ => ⟨S1x256x256, .f32⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024x2304 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1792 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== MixInReferenceIdeal.lean ====
abbrev S2x16384x1024 : Shape := ⟨3, ![2, 16384, 1024]⟩
abbrev S2x256x1024 : Shape := ⟨3, ![2, 256, 1024]⟩
abbrev S1024 : Shape := ⟨1, ![1024]⟩
abbrev S2x1x1024 : Shape := ⟨3, ![2, 1, 1024]⟩
abbrev S1024x2304 : Shape := ⟨2, ![1024, 2304]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2304 : Shape := ⟨3, ![2, 16384, 2304]⟩
abbrev S2x256 : Shape := ⟨2, ![2, 256]⟩
abbrev S2x256x1 : Shape := ⟨3, ![2, 256, 1]⟩
abbrev S2x256x2304 : Shape := ⟨3, ![2, 256, 2304]⟩
abbrev S2x16384x1792 : Shape := ⟨3, ![2, 16384, 1792]⟩
abbrev S2x16384x256 : Shape := ⟨3, ![2, 16384, 256]⟩
abbrev S2x256x1792 : Shape := ⟨3, ![2, 256, 1792]⟩
abbrev S2x256x256 : Shape := ⟨3, ![2, 256, 256]⟩
abbrev S2x16640x1792 : Shape := ⟨3, ![2, 16640, 1792]⟩

abbrev nBuf : Space → Nat
  | .hbm => 63
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S1024x2304, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x2304, .f32⟩
  | .hbm, ⟨32, _⟩ => ⟨S2x256x1024, .f32⟩
  | .hbm, ⟨33, _⟩ => ⟨S_, .f32⟩
  | .hbm, ⟨34, _⟩ => ⟨S2x256, .f32⟩
  | .hbm, ⟨35, _⟩ => ⟨S2x256x1, .f32⟩
  | .hbm, ⟨36, _⟩ => ⟨S_, .f32⟩
  | .hbm, ⟨37, _⟩ => ⟨S2x256x1, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S2x256x1, .f32⟩
  | .hbm, ⟨43, _⟩ => ⟨S2x256x1024, .f32⟩
  | .hbm, ⟨44, _⟩ => ⟨S2x256x1024, .f32⟩
  | .hbm, ⟨45, _⟩ => ⟨S1x1x1024, .f32⟩
  | .hbm, ⟨46, _⟩ => ⟨S2x256x1024, .f32⟩
  | .hbm, ⟨47, _⟩ => ⟨S2x256x1024, .f32⟩
  | .hbm, ⟨48, _⟩ => ⟨S_, .f32⟩
  | .hbm, ⟨49, _⟩ => ⟨S2x1x1024, .f32⟩
  | .hbm, ⟨50, _⟩ => ⟨S2x1x1024, .f32⟩
  | .hbm, ⟨51, _⟩ => ⟨S2x256x1024, .f32⟩
  | .hbm, ⟨52, _⟩ => ⟨S2x256x1024, .f32⟩
  | .hbm, ⟨53, _⟩ => ⟨S2x256x1024, .f32⟩
  | .hbm, ⟨54, _⟩ => ⟨S2x256x1024, .f32⟩
  | .hbm, ⟨55, _⟩ => ⟨S2x256x2304, .f32⟩
  | .hbm, ⟨56, _⟩ => ⟨S2x16384x1792, .f32⟩
  | .hbm, ⟨57, _⟩ => ⟨S2x16384x256, .f32⟩
  | .hbm, ⟨58, _⟩ => ⟨S2x16384x256, .f32⟩
  | .hbm, ⟨59, _⟩ => ⟨S2x256x1792, .f32⟩
  | .hbm, ⟨60, _⟩ => ⟨S2x256x256, .f32⟩
  | .hbm, ⟨61, _⟩ => ⟨S2x256x256, .f32⟩
  | .hbm, ⟨62, _⟩ => ⟨S2x16640x1792, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== MixOut.lean ====
abbrev S2x16640x512 : Shape := ⟨3, ![2, 16640, 512]⟩
abbrev S2x16384x256 : Shape := ⟨3, ![2, 16384, 256]⟩
abbrev S2x16384x1024 : Shape := ⟨3, ![2, 16384, 1024]⟩
abbrev S512 : Shape := ⟨1, ![512]⟩
abbrev S1024x1024 : Shape := ⟨2, ![1024, 1024]⟩
abbrev S2x1x1024 : Shape := ⟨3, ![2, 1, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x512 : Shape := ⟨2, ![1, 512]⟩
abbrev S1x256x512 : Shape := ⟨3, ![1, 256, 512]⟩
abbrev S1x256x256 : Shape := ⟨3, ![1, 256, 256]⟩
abbrev S1x256x1024 : Shape := ⟨3, ![1, 256, 1024]⟩
abbrev S1x1x1024 : Shape := ⟨3, ![1, 1, 1024]⟩
abbrev S256x512 : Shape := ⟨2, ![256, 512]⟩
abbrev S256x256 : Shape := ⟨2, ![256, 256]⟩
abbrev S256x1024 : Shape := ⟨2, ![256, 1024]⟩
abbrev S1x1024 : Shape := ⟨2, ![1, 1024]⟩

abbrev nBuf : Space → Nat
  | .hbm => 32
  | .vmem => 24
  | .smem => 0
  | _ => 0

abbrev bufTy : (tb : Table) → Fin (tcTables nBuf tb) → BufTy
  | .hbm, ⟨0, _⟩ => ⟨S2x16640x512, .f32⟩
  | .hbm, ⟨1, _⟩ => ⟨S2x16640x512, .f32⟩
  | .hbm, ⟨2, _⟩ => ⟨S2x16640x512, .f32⟩
  | .hbm, ⟨3, _⟩ => ⟨S2x16640x512, .f32⟩
  | .hbm, ⟨4, _⟩ => ⟨S2x16640x512, .f32⟩
  | .hbm, ⟨5, _⟩ => ⟨S2x16384x256, .f32⟩
  | .hbm, ⟨6, _⟩ => ⟨S2x16384x256, .f32⟩
  | .hbm, ⟨7, _⟩ => ⟨S2x16384x1024, .f32⟩
  | .hbm, ⟨8, _⟩ => ⟨S512, .f32⟩
  | .hbm, ⟨9, _⟩ => ⟨S512, .f32⟩
  | .hbm, ⟨10, _⟩ => ⟨S1024x1024, .f32⟩
  | .hbm, ⟨11, _⟩ => ⟨S2x1x1024, .f32⟩
  | .hbm, ⟨12, _⟩ => ⟨S1024x1024, .bf16⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S_, .f32⟩
  | .hbm, ⟨21, _⟩ => ⟨S64x64, .f32⟩
  | .hbm, ⟨22, _⟩ => ⟨S8x1x8x1, .f32⟩
  | .hbm, ⟨23, _⟩ => ⟨S1x64x1x64, .f32⟩
  | .hbm, ⟨24, _⟩ => ⟨S8x64x8x64, .f32⟩
  | .hbm, ⟨25, _⟩ => ⟨S8x64x8x64, .f32⟩
  | .hbm, ⟨26, _⟩ => ⟨S8x64x8x64, .f32⟩
  | .hbm, ⟨27, _⟩ => ⟨S512x512, .f32⟩
  | .hbm, ⟨28, _⟩ => ⟨S512x512, .bf16⟩
  | .hbm, ⟨29, _⟩ => ⟨S1x512, .f32⟩
  | .hbm, ⟨30, _⟩ => ⟨S1x512, .f32⟩
  | .hbm, ⟨31, _⟩ => ⟨S2x16384x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x1024, .f32⟩
  | .local _ .vmem, ⟨15, _⟩ => ⟨S1x256x1024, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S1024x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1x256x1024, .f32⟩
  | .local _ .vmem, ⟨23, _⟩ => ⟨S1x256x1024, .f32⟩
  | _, _ => ⟨S2x16640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [BitOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixOutIdeal.lean ====
variable {F : FTy → Type} [FloatOps F]
-- ==== MixOutReferenceIdeal.lean ====
abbrev S2x16640x512 : Shape := ⟨3, ![2, 16640, 512]⟩
abbrev S2x16384x256 : Shape := ⟨3, ![2, 16384, 256]⟩
abbrev S2x16384x1024 : Shape := ⟨3, ![2, 16384, 1024]⟩
abbrev S512 : Shape := ⟨1, ![512]⟩
abbrev S1024x1024 : Shape := ⟨2, ![1024, 1024]⟩
abbrev S2x1x1024 : Shape := ⟨3, ![2, 1, 1024]⟩
abbrev S2x16384x512 : Shape := ⟨3, ![2, 16384, 512]⟩
abbrev S2x16384x8x64 : Shape := ⟨4, ![2, 16384, 8, 64]⟩
abbrev S_ : Shape := ⟨0, ![]⟩
abbrev S2x16384x8 : Shape := ⟨3, ![2, 16384, 8]⟩
abbrev S2x16384x8x1 : Shape := ⟨4, ![2, 16384, 8, 1]⟩
abbrev S1x1x512 : Shape := ⟨3, ![1, 1, 512]⟩

abbrev nBuf : Space → Nat
  | .hbm => 55
  | .vmem => 0
  | .smem => 0
  | _ => 0

abbrev bufTy : (tb : Table) → Fin (tcTables nBuf tb) → BufTy
  | .hbm, ⟨0, _⟩ => ⟨S2x16640x512, .f32⟩
  | .hbm, ⟨1, _⟩ => ⟨S2x16640x512, .f32⟩
  | .hbm, ⟨2, _⟩ => ⟨S2x16640x512, .f32⟩
  | .hbm, ⟨3, _⟩ => ⟨S2x16640x512, .f32⟩
  | .hbm, ⟨4, _⟩ => ⟨S2x16640x512, .f32⟩
  | .hbm, ⟨5, _⟩ => ⟨S2x16384x256, .f32⟩
  | .hbm, ⟨6, _⟩ => ⟨S2x16384x256, .f32⟩
  | .hbm, ⟨7, _⟩ => ⟨S2x16384x1024, .f32⟩
  | .hbm, ⟨8, _⟩ => ⟨S512, .f32⟩
  | .hbm, ⟨9, _⟩ => ⟨S512, .f32⟩
  | .hbm, ⟨10, _⟩ => ⟨S1024x1024, .f32⟩
  | .hbm, ⟨11, _⟩ => ⟨S2x1x1024, .f32⟩
  | .hbm, ⟨12, _⟩ => ⟨S2x16640x512, .f32⟩
  | .hbm, ⟨13, _⟩ => ⟨S2x16384x512, .f32⟩
  | .hbm, ⟨14, _⟩ => ⟨S2x16384x8x64, .f32⟩
  | .hbm, ⟨15, _⟩ => ⟨S_, .f32⟩
  | .hbm, ⟨16, _⟩ => ⟨S2x16384x8, .f32⟩
  | .hbm, ⟨17, _⟩ => ⟨S2x16384x8x1, .f32⟩
  | .hbm, ⟨18, _⟩ => ⟨S_, .f32⟩
  | .hbm, ⟨19, _⟩ => ⟨S2x16384x8x1, .f32⟩
  | .hbm, ⟨20, _⟩ => ⟨S2x16384x8x1, .f32⟩
  | .hbm, ⟨21, _⟩ => ⟨S2x16384x8x64, .f32⟩
  | .hbm, ⟨22, _⟩ => ⟨S2x16384x8x64, .f32⟩
  | .hbm, ⟨23, _⟩ => ⟨S2x16384x8x64, .f32⟩
  | .hbm, ⟨24, _⟩ => ⟨S_, .f32⟩
  | .hbm, ⟨25, _⟩ => ⟨S2x16384x8, .f32⟩
  | .hbm, ⟨26, _⟩ => ⟨S2x16384x8x1, .f32⟩
  | .hbm, ⟨27, _⟩ => ⟨S_, .f32⟩
  | .hbm, ⟨28, _⟩ => ⟨S2x16384x8x1, .f32⟩
  | .hbm, ⟨29, _⟩ => ⟨S2x16384x8x1, .f32⟩
  | .hbm, ⟨30, _⟩ => ⟨S2x16384x8x64, .f32⟩
  | .hbm, ⟨31, _⟩ => ⟨S2x16384x8x64, .f32⟩
  | .hbm, ⟨32, _⟩ => ⟨S_, .f32⟩
  | .hbm, ⟨33, _⟩ => ⟨S2x16384x8x1, .f32⟩
  | .hbm, ⟨34, _⟩ => ⟨S2x16384x8x1, .f32⟩
  | .hbm, ⟨35, _⟩ => ⟨S2x16384x8x1, .f32⟩
  | .hbm, ⟨36, _⟩ => ⟨S2x16384x8x64, .f32⟩
  | .hbm, ⟨37, _⟩ => ⟨S2x16384x8x64, .f32⟩
  | .hbm, ⟨38, _⟩ => ⟨S2x16384x512, .f32⟩
  | .hbm, ⟨39, _⟩ => ⟨S1x1x512, .f32⟩
  | .hbm, ⟨40, _⟩ => ⟨S2x16384x512, .f32⟩
  | .hbm, ⟨41, _⟩ => ⟨S2x16384x512, .f32⟩
  | .hbm, ⟨42, _⟩ => ⟨S1x1x512, .f32⟩
  | .hbm, ⟨43, _⟩ => ⟨S2x16384x512, .f32⟩
  | .hbm, ⟨44, _⟩ => ⟨S2x16384x512, .f32⟩
  | .hbm, ⟨45, _⟩ => ⟨S2x16640x512, .f32⟩
  | .hbm, ⟨46, _⟩ => ⟨S2x16384x512, .f32⟩
  | .hbm, ⟨47, _⟩ => ⟨S2x16384x512, .f32⟩
  | .hbm, ⟨48, _⟩ => ⟨S2x16384x512, .f32⟩
  | .hbm, ⟨49, _⟩ => ⟨S2x16384x512, .f32⟩
  | .hbm, ⟨50, _⟩ => ⟨S2x16384x1024, .f32⟩
  | .hbm, ⟨51, _⟩ => ⟨S2x16384x1024, .f32⟩
  | .hbm, ⟨52, _⟩ => ⟨S2x16384x1024, .f32⟩
  | .hbm, ⟨53, _⟩ => ⟨S2x16384x1024, .f32⟩
  | .hbm, ⟨54, _⟩ => ⟨S2x16384x1024, .f32⟩
  | _, _ => ⟨S2x16640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Proof.Slots.lean ====
/- What the precondition says of the words: every block start lies in [0, 2048], and every token's slot number is negative or
   one of the 256 numbers from its block's start on. -/
module

public import proofs.«01_k».proof.Pre_slots_ok
public import proofs.«01_k».proof.Proof.Gen.Pre_slots_ok
public import Idealize.ShloMosaic.Lib.ReduceAll
public import Idealize.ShloMosaic.Lib.WordCmp
public import Idealize.ShloMosaic.Lib.PointwiseCore

@[expose] public section

set_option maxRecDepth 16384

noncomputable section

namespace Cert.Pre_slots_ok.Expert

open Cert.Pre_slots_ok Cert.Pre_slots_ok.Gen
open Idealize.ShloMosaic

variable {F : FTy → Type} [FloatOps F]

theorem andi_eq_one {a b : BitVec 1} : IntOp.andi a b = 1#1 ↔ a = 1#1 ∧ b = 1#1 := by
  revert a b; decide

theorem ori_eq_one {a b : BitVec 1} : IntOp.ori a b = 1#1 ↔ a = 1#1 ∨ b = 1#1 := by
  revert a b; decide

variable {a0 : FVec F S2x16384x1024 .bf16} {a1 : IVec S2x16x1x16384 32} {a2 : IVec S2048 32} {a3 a4 a5 : FVec F S16x1024x1024 .bf16}

/-- The precondition holds: its two halves do. -/
theorem halves (h : fn (F := F) a0 a1 a2 a3 a4 a5 = fun _ => 1#1) :
    (∀ k, 0 ≤ (a2 k).toInt ∧ (a2 k).toInt ≤ 2048)
    ∧ ∀ i : S2x16x64x256.Idx, IntOp.ori (IntOp.cmpi .slt (shapeCast S2x16x64x256 a1 shapeCasts_S2x16x1x16384_S2x16x64x256 i) 0#32)
        (IntOp.andi (IntOp.cmpi .sge (shapeCast S2x16x64x256 a1 shapeCasts_S2x16x1x16384_S2x16x64x256 i)
            (broadcastInDim S2x16x64x256 ![0, 1, 2, 3] bcast_S2x16x64x1_S2x16x64x256_0_1_2_3 (shapeCast S2x16x64x1 a2 shapeCasts_S2048_S2x16x64x1) i))
          (IntOp.cmpi .slt (shapeCast S2x16x64x256 a1 shapeCasts_S2x16x1x16384_S2x16x64x256 i)
            (broadcastInDim S2x16x64x256 ![0, 1, 2, 3] bcast_S2x16x64x1_S2x16x64x256_0_1_2_3 (shapeCast S2x16x64x1 a2 shapeCasts_S2048_S2x16x64x1) i + 256#32))) = 1#1 := by
  have e := congrFun h (fun a => a.elim0)
  obtain ⟨e1, e2⟩ := andi_eq_one.1 e
  refine ⟨fun k => ?_, fun i => Host.reduce_andi_all _ _ _ _ _ e2 i⟩
  obtain ⟨h1, h2⟩ := andi_eq_one.1 (Host.reduce_andi_all _ _ _ _ _ e1 k)
  exact ⟨IntOp.cmpi_sge.1 h1, IntOp.cmpi_sle.1 h2⟩

/-- Every block start is at most 2048, as an unsigned number. -/
theorem start_le (h : fn (F := F) a0 a1 a2 a3 a4 a5 = fun _ => 1#1) (k : S2048.Idx) : (a2 k).toNat ≤ 2048 := by
  obtain ⟨h1, h2⟩ := (halves h).1 k
  have := BitVec.toInt_eq_toNat_cond (a2 k)
  have := (a2 k).isLt
  split at * <;> omega

/-- The block start of token `t` of expert `e` in batch entry `b`. -/
def blockOf (b : Fin 2) (e : Fin 16) (t : Fin 16384) : Fin 2048 := ⟨(b.val * 16 + e.val) * 64 + t.val / 256, by omega⟩

/-- A token's slot number is negative, or one of the 256 from its block's start on. -/
theorem pos_in (h : fn (F := F) a0 a1 a2 a3 a4 a5 = fun _ => 1#1) (b : Fin 2) (e : Fin 16) (t : Fin 16384) :
    (a1 (ix4 b e 0 t)).toInt < 0
    ∨ ((a2 (ix1 (blockOf b e t))).toNat ≤ (a1 (ix4 b e 0 t)).toNat ∧ (a1 (ix4 b e 0 t)).toNat < (a2 (ix1 (blockOf b e t))).toNat + 256) := by
  have hs := start_le h (ix1 (blockOf b e t))
  have hi := (halves h).2 (ix4 b e ⟨t.val / 256, by omega⟩ ⟨t.val % 256, by omega⟩)
  have hp : shapeCast S2x16x64x256 a1 shapeCasts_S2x16x1x16384_S2x16x64x256 (ix4 b e ⟨t.val / 256, by omega⟩ ⟨t.val % 256, by omega⟩) = a1 (ix4 b e 0 t) := by
    pointwise
  have hq : broadcastInDim S2x16x64x256 ![0, 1, 2, 3] bcast_S2x16x64x1_S2x16x64x256_0_1_2_3 (shapeCast S2x16x64x1 a2 shapeCasts_S2048_S2x16x64x1)
      (ix4 b e ⟨t.val / 256, by omega⟩ ⟨t.val % 256, by omega⟩) = a2 (ix1 (blockOf b e t)) := by
    pointwise
    refine congrArg (fun k => a2 (ix1 k)) (Fin.ext ?_)
    show b.val * 1024 + e.val * 64 + t.val / 256 = (b.val * 16 + e.val) * 64 + t.val / 256
    omega
  rw [hp, hq] at hi
  generalize a1 (ix4 b e 0 t) = p at hi ⊢
  generalize a2 (ix1 (blockOf b e t)) = s at hi hs ⊢
  rcases ori_eq_one.1 hi with h1 | h2
  · exact .inl (IntOp.cmpi_slt.1 h1)
  · obtain ⟨h3, h4⟩ := andi_eq_one.1 h2
    have h3 := IntOp.cmpi_sge.1 h3
    have h4 := IntOp.cmpi_slt.1 h4
    have ha : (s + 256#32).toNat = s.toNat + 256 := by rw [BitVec.toNat_add]; simp; omega
    have hsI : s.toInt = s.toNat := BitVec.toInt_eq_toNat_of_lt (by omega)
    have haI : (s + 256#32).toInt = (s + 256#32).toNat := BitVec.toInt_eq_toNat_of_lt (by omega)
    rw [hsI] at h3
    rw [haI, ha] at h4
    have := p.isLt
    have hp := BitVec.toInt_eq_toNat_cond p
    split at hp <;> omega

end Cert.Pre_slots_ok.Expert

end
-- ==== Proof.Ideal.Setup.lean ====
/- The schedule of the expert call (at which points each window is fetched and written back), the tables and windows
   as the region finds them, the two branch conditions, and the side conditions of the block starts. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Expert

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 2 (by decide) (by decide) (Pipeline.Window.sep_of_coord cc0_transform_1 2 3 (fun _ => rfl) (by decide)) (P := 1) (by decide) t).mpr (Nat.mod_one _) : ∀ t : Fin grid0.N, Pipeline.Window.fetchOf grid0 false cc0_transform_1 t = true)
/-- Window 2 (operand 3 (%arg3)) is fetched at the points ≡ 0 (mod 8), at any contents of the tables (its index map reads none). -/
theorem fetch0_2 (a : (pcfg0 (F := F)).Adm) : ∀ t : Fin (cfg0 a).N, ((cfg0 a).win 2).fetch t = true ↔ t.val % 8 = 0 :=
  (fun t => Pipeline.Window.fetchOf_reads cc0_transform_2 reads0_2 hreads0_2 1 (by decide) (by decide) (Pipeline.Window.sep_of_coord cc0_transform_2 1 0 (fun _ => rfl) (by decide)) (P := 8) (by decide) t : ∀ t : Fin grid0.N, Pipeline.Window.fetchOf grid0 false cc0_transform_2 t = true ↔ t.val % 8 = 0)
/-- Window 3 (operand 4 (%arg4)) is fetched at the points ≡ 0 (mod 8), at any contents of the tables (its index map reads none). -/
theorem fetch0_3 (a : (pcfg0 (F := F)).Adm) : ∀ t : Fin (cfg0 a).N, ((cfg0 a).win 3).fetch t = true ↔ t.val % 8 = 0 :=
  (fun t => Pipeline.Window.fetchOf_reads cc0_transform_3 reads0_3 hreads0_3 1 (by decide) (by decide) (Pipeline.Window.sep_of_coord cc0_transform_3 1 0 (fun _ => rfl) (by decide)) (P := 8) (by decide) t : ∀ t : Fin grid0.N, Pipeline.Window.fetchOf grid0 false cc0_transform_3 t = true ↔ t.val % 8 = 0)
/-- Window 4 (operand 5 (%arg5)) is fetched at the points ≡ 0 (mod 8), at any contents of the tables (its index map reads none). -/
theorem fetch0_4 (a : (pcfg0 (F := F)).Adm) : ∀ t : Fin (cfg0 a).N, ((cfg0 a).win 4).fetch t = true ↔ t.val % 8 = 0 :=
  (fun t => Pipeline.Window.fetchOf_reads cc0_transform_4 reads0_4 hreads0_4 1 (by decide) (by decide) (Pipeline.Window.sep_of_coord cc0_transform_4 1 0 (fun _ => rfl) (by decide)) (P := 8) (by decide) t : ∀ t : Fin grid0.N, Pipeline.Window.fetchOf grid0 false cc0_transform_4 t = true ↔ t.val % 8 = 0)
/-- Window 5 (result 0 (%0)) is written back at the points ≡ 7 (mod 8), at any contents of the tables (its index map reads none). -/
theorem flush0_5 (a : (pcfg0 (F := F)).Adm) : ∀ t : Fin (cfg0 a).N, ((cfg0 a).win 5).flush t = true ↔ t.val % 8 = 7 :=
  (fun t => Pipeline.Window.flushOf_reads cc0_transform_5 reads0_5 hreads0_5 1 (by decide) (by decide) (Pipeline.Window.sep_of_coord cc0_transform_5 1 1 (fun _ => rfl) (by decide)) (P := 8) (m := 7) (by decide) rfl t : ∀ t : Fin grid0.N, Pipeline.Window.flushOf grid0 true cc0_transform_5 t = true ↔ t.val % 8 = 7)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_ffn (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2048 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin grid0.N, cond0_0 (grid0.coords t) ↔ t.val % 8 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 8 % 16 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin grid0.N, cond0_1 (grid0.coords t) ↔ t.val % 8 = 7 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 8 % 16 := Pipeline.Grid.coords_val t 1 (by decide) rfl
    have e2 : (grid0.coords t 2).val = t.val / 1 % 8 := Pipeline.Grid.coords_val t 2 (by decide) rfl
    simp only [cond0_1, k0_cond2, e0, e1, e2]
    word_cmp
   : ∀ t : Fin grid0.N, cond0_1 (grid0.coords t) ↔ t.val % 8 = 7)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- At the points of case A the printed configuration (`Cfg.idle`) calls output 5 idle: the case stores nothing into it. -/
theorem idleAt0_5_A (hO : Ok m) : ∀ t : Fin (cfgM m hO).N, cond0_0 (grid0.coords t) → ¬cond0_1 (grid0.coords t) → (cfgM m hO).idle 5 (grid0.coords t) = true :=
  (by decide +kernel : ∀ t : Fin grid0.N, cond0_0 (grid0.coords t) → ¬cond0_1 (grid0.coords t) → idle0 5 (grid0.coords t) = true)
/-- At the points of case A the pipeline does not write output 5's block back. -/
theorem noFlush0_5_A (hO : Ok m) : ∀ t : Fin (cfgM m hO).N, cond0_0 (grid0.coords t) → ¬cond0_1 (grid0.coords t) → ((cfgM m hO).win 5).flush t = false :=
  (by decide +kernel : ∀ t : Fin grid0.N, cond0_0 (grid0.coords t) → ¬cond0_1 (grid0.coords t) → Pipeline.Window.flushOf grid0 true cc0_transform_5 t = false)
/-- At the points of case B the printed configuration (`Cfg.idle`) calls output 5 idle: the case stores nothing into it. -/
theorem idleAt0_5_B (hO : Ok m) : ∀ t : Fin (cfgM m hO).N, ¬cond0_0 (grid0.coords t) → ¬cond0_1 (grid0.coords t) → (cfgM m hO).idle 5 (grid0.coords t) = true :=
  (by decide +kernel : ∀ t : Fin grid0.N, ¬cond0_0 (grid0.coords t) → ¬cond0_1 (grid0.coords t) → idle0 5 (grid0.coords t) = true)
/-- At the points of case B the pipeline does not write output 5's block back. -/
theorem noFlush0_5_B (hO : Ok m) : ∀ t : Fin (cfgM m hO).N, ¬cond0_0 (grid0.coords t) → ¬cond0_1 (grid0.coords t) → ((cfgM m hO).win 5).flush t = false :=
  (by decide +kernel : ∀ t : Fin grid0.N, ¬cond0_0 (grid0.coords t) → ¬cond0_1 (grid0.coords t) → Pipeline.Window.flushOf grid0 true cc0_transform_5 t = false)
/-- At the points of case C the printed configuration (`Cfg.idle`) calls output 5 live: the case stores into it. -/
theorem liveAt0_5_C (hO : Ok m) : ∀ t : Fin (cfgM m hO).N, ¬cond0_0 (grid0.coords t) → cond0_1 (grid0.coords t) → (cfgM m hO).idle 5 (grid0.coords t) = false :=
  (by decide +kernel : ∀ t : Fin grid0.N, ¬cond0_0 (grid0.coords t) → cond0_1 (grid0.coords t) → idle0 5 (grid0.coords t) = false)

/-! ## The kernel body on any staging memrefs: a subtype the run finds -/

/-- One staging buffer of output window 5, through which its contents are stated (`View.read_writes_of_cover`: the
    choice does not matter). -/
abbrev VO0_5 : View sig .tc .vmem S1x1x2320x1024 .bf16 := (Memref.whole cc0_stg5_0 : Memref sig .tc .vmem S1x1x2320x1024 .bf16).view
/-- Each window's current staging memref at point `t`, spelled as the pipeline passes it (`bodyAt0`), and its wholeness. -/
abbrev ms0_0 (hO : Ok m) (t : Fin (cfgM m hO).N) : Memref sig .tc .vmem S1x2048x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1x2048 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x2320x1024 .bf16 := spec0_5.stage ((cfgM m hO).slots t 5)
abbrev hs0_5 (hO : Ok m) (t : Fin (cfgM m hO).N) : (ms0_5 m hO t).IsWhole := hstage0_5 (((cfgM m hO).slots t 5).cast nbuf0_5)

/-- The scratch operands: whole scoped buffers of the kernel's own, passed beside the windows. -/
abbrev scM0_0 : Memref sig .tc .vmem S2320x1024 .f32 := Memref.whole cc0_scratch0
/-- The scratch `arg10` the kernel carries between points, as a view: what it holds is stated through it. -/
abbrev VS0_0 : View sig .tc .vmem S2320x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Expert

end
-- ==== Proof.Ideal.Gather.lean ====
/- The expert call's gather and feed-forward as plain functions of the blocks: what one grid point leaves in the scratch
   of gathered rows, and what the last point of a row of the grid leaves in the output block. -/
module

public import proofs.«01_k».proof.Proof.Ideal.Setup
public import Idealize.ShloMosaic.Lib.VecWindow
public import Idealize.ShloMosaic.Lib.ValueIdxCore

@[expose] public section

set_option maxRecDepth 16384

noncomputable section

namespace Cert.KernelIdeal.Expert

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The block starts -/

/-- The block start that gather `q` of grid point `i` reads off the table. -/
def startAt (xt : S2048.Idx → BitVec 32) (i : grid0.Coords) (q : Fin 8) : BitVec 32 :=
  xt (ix1 ⟨(((i 0).val * 16 + (i 1).val) * 8 + (i 2).val) * 8 + q.val, by
    have h0 : (i 0).val < 2 := (i 0).isLt
    have h1 : (i 1).val < 16 := (i 1).isLt
    have h2 : (i 2).val < 8 := (i 2).isLt
    have := q.isLt
    omega⟩)

/-- The side conditions of a grid point: each of its eight window positions is aligned and inside the scratch. -/
def ChkAt (xt : S2048.Idx → BitVec 32) (i : grid0.Coords) : Prop := ∀ q : Fin 8, k0_chk1 (startAt xt i q)

/-- The word a scalar load of the table at offset `off` reads, when `off` is gather `q`'s place. -/
theorem readAt_start (xt : S2048.Idx → BitVec 32) (i : grid0.Coords) (q : Fin 8) (off : Fin 1 → ℕ) (inb : ∀ a, off a + S1.size a ≤ S2048.size a)
    (ho : off 0 = (((i 0).val * 16 + (i 1).val) * 8 + (i 2).val) * 8 + q.val) :
    tbM0_0.view.readAt (Elt F) (Rect.unit (s := S2048) off S1.size inb).toLoadRect xt (Shape.Idx.first (numel1_S1.symm ▸ Nat.one_pos)) = startAt xt i q := by
  refine congrArg xt (funext fun a => ?_)
  match a with
  | ⟨0, _⟩ =>
    refine Fin.ext ?_
    show off 0 + 1 * (Shape.Idx.first (s := S1) _ 0).val = _
    have hz : ∀ z : Fin 1, off 0 + 1 * z.val = (((i 0).val * 16 + (i 1).val) * 8 + (i 2).val) * 8 + q.val := fun z => by omega
    exact hz _

/-- The eight places of the table a grid point reads. -/
theorem off_start (i : grid0.Coords) :
    k0_off1 i 0 = (((i 0).val * 16 + (i 1).val) * 8 + (i 2).val) * 8 + 0 ∧ k0_off3 i 0 = (((i 0).val * 16 + (i 1).val) * 8 + (i 2).val) * 8 + 1
    ∧ k0_off5 i 0 = (((i 0).val * 16 + (i 1).val) * 8 + (i 2).val) * 8 + 2 ∧ k0_off7 i 0 = (((i 0).val * 16 + (i 1).val) * 8 + (i 2).val) * 8 + 3
    ∧ k0_off9 i 0 = (((i 0).val * 16 + (i 1).val) * 8 + (i 2).val) * 8 + 4 ∧ k0_off11 i 0 = (((i 0).val * 16 + (i 1).val) * 8 + (i 2).val) * 8 + 5
    ∧ k0_off13 i 0 = (((i 0).val * 16 + (i 1).val) * 8 + (i 2).val) * 8 + 6 ∧ k0_off15 i 0 = (((i 0).val * 16 + (i 1).val) * 8 + (i 2).val) * 8 + 7 := by
  have h0 : (i 0).val < 2 := (i 0).isLt
  have h1 : (i 1).val < 16 := (i 1).isLt
  have h2 : (i 2).val < 8 := (i 2).isLt
  have key : ∀ q : ℕ, q < 8 → ((((BitVec.ofNat 32 (i 0).val * 16#32 + BitVec.ofNat 32 (i 1).val) * 8#32 + BitVec.ofNat 32 (i 2).val) * 8#32 + BitVec.ofNat 32 q : BitVec 32)).toNat
      = (((i 0).val * 16 + (i 1).val) * 8 + (i 2).val) * 8 + q := fun q hq => by
    simp only [BitVec.toNat_add, BitVec.toNat_mul, BitVec.toNat_ofNat]
    omega
  exact ⟨key 0 (by omega), key 1 (by omega), key 2 (by omega), key 3 (by omega), key 4 (by omega), key 5 (by omega), key 6 (by omega), key 7 (by omega)⟩

/-! ## One gather -/

/-- The 256 slot numbers gather `q` reads of the block of slot numbers. -/
def posPart (x1 : Vec F S1x1x1x2048 .i32) (q : Fin 8) : Vec F S1x1x1x256 .i32 :=
  fun z => x1 (ix4 (z 0) (z 1) (z 2) ⟨256 * q.val + (z 3).val, by
    have h : (z 3).val < 256 := (z 3).isLt
    have := q.isLt
    omega⟩)

/-- The 256 token rows gather `q` reads of the block of tokens. -/
def tokPart (x0 : Vec F S1x2048x1024 .bf16) (q : Fin 8) : Vec F S1x256x1024 .bf16 :=
  fun z => x0 (ix3 (z 0) ⟨256 * q.val + (z 1).val, by
    have h : (z 1).val < 256 := (z 1).isLt
    have := q.isLt
    omega⟩ (z 2))

/-- Gather `q` of a grid point: the window of 272 rows at the aligned block start gains the product of the selection
    matrix (window row against token, 1 where the token's slot is the row) with the 256 token rows. -/
def step (xt : S2048.Idx → BitVec 32) (i : grid0.Coords) (hc : ChkAt xt i) (x0 : Vec F S1x2048x1024 .bf16) (x1 : Vec F S1x1x1x2048 .i32) (q : Fin 8)
    (x : Vec F S2320x1024 .f32) : Vec F S2320x1024 .f32 :=
  VecWindow.put x (k0_off2 (startAt xt i q)) S272x1024.size
    (k0_pay15 (k0_pay14 (posPart x1 q) (startAt xt i q)) (VecWindow.window x (k0_off2 (startAt xt i q)) S272x1024.size (k0_off2_inb _ (hc q))) (tokPart x0 q))

/-- The eight gathers of a grid point, in order. -/
def gather (xt : S2048.Idx → BitVec 32) (i : grid0.Coords) (hc : ChkAt xt i) (x0 : Vec F S1x2048x1024 .bf16) (x1 : Vec F S1x1x1x2048 .i32)
    (x : Vec F S2320x1024 .f32) : Vec F S2320x1024 .f32 :=
  step xt i hc x0 x1 7 (step xt i hc x0 x1 6 (step xt i hc x0 x1 5 (step xt i hc x0 x1 4 (step xt i hc x0 x1 3 (step xt i hc x0 x1 2
    (step xt i hc x0 x1 1 (step xt i hc x0 x1 0 x)))))))

/-- The load gather `q` makes of the slot numbers' block. -/
theorem readAt_pos {sig : RefSig} {κ : Kind} {sp : Space} (v : View sig κ sp S1x1x1x2048 .i32) (f : v.ty.Contents (Elt F)) {x1 : Vec F S1x1x1x2048 .i32}
    (hf : v.read (Elt F) f = x1) (q : Fin 8) (off : Fin 4 → ℕ) (inb : ∀ a, off a + S1x1x1x256.size a ≤ S1x1x1x2048.size a) (ho : off = ![0, 0, 0, 256 * q.val]) :
    v.readAt (Elt F) (Rect.unit (s := S1x1x1x2048) off S1x1x1x256.size inb).toLoadRect f = posPart x1 q := by
  subst hf ho
  funext z
  refine congrArg (v.read (Elt F) f) (funext fun a => Fin.ext ?_)
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega
  | ⟨3, _⟩ => show 256 * q.val + 1 * (z 3).val = 256 * q.val + (z 3).val; omega

/-- The load gather `q` makes of the tokens' block. -/
theorem readAt_tok {sig : RefSig} {κ : Kind} {sp : Space} (v : View sig κ sp S1x2048x1024 .bf16) (f : v.ty.Contents (Elt F)) {x0 : Vec F S1x2048x1024 .bf16}
    (hf : v.read (Elt F) f = x0) (q : Fin 8) (off : Fin 3 → ℕ) (inb : ∀ a, off a + S1x256x1024.size a ≤ S1x2048x1024.size a) (ho : off = ![0, 256 * q.val, 0]) :
    v.readAt (Elt F) (Rect.unit (s := S1x2048x1024) off S1x256x1024.size inb).toLoadRect f = tokPart x0 q := by
  subst hf ho
  funext z
  refine congrArg (v.read (Elt F) f) (funext fun a => Fin.ext ?_)
  match a with
  | ⟨0, _⟩ => show 0 + 1 * (z 0).val = (z 0).val; omega
  | ⟨1, _⟩ => show 256 * q.val + 1 * (z 1).val = 256 * q.val + (z 1).val; omega
  | ⟨2, _⟩ => show 0 + 1 * (z 2).val = (z 2).val; omega

/-- A store of gather `q`'s payload, read back through any view of the scratch: the gather's step over what was there before. -/
theorem read_step {sig : RefSig} {κ : Kind} {sp : Space} (v : View sig κ sp S2320x1024 .f32) (f : v.ty.Contents (Elt F)) (L : List (View.Piece (Elt F) S2320x1024 .f32))
    (xt : S2048.Idx → BitVec 32) (i : grid0.Coords) (hc : ChkAt xt i) (x0 : Vec F S1x2048x1024 .bf16) (x1 : Vec F S1x1x1x2048 .i32) (q : Fin 8)
    (w : BitVec 32) (hw : w = startAt xt i q) {off : Fin 2 → ℕ} (inb : ∀ a, off a + S272x1024.size a ≤ S2320x1024.size a) (ho : off = k0_off2 w)
    (p : Vec F S1x1x1x256 .i32) (hp : p = posPart x1 q) (h : Vec F S1x256x1024 .bf16) (hh : h = tokPart x0 q)
    (pay : (Rect.unit (s := S2320x1024) off S272x1024.size inb).shape.Idx → Elt F .f32)
    (hpay : pay = k0_pay15 (k0_pay14 p w) (v.readAt (Elt F) (Rect.unit (s := S2320x1024) off S272x1024.size inb).toLoadRect (v.writes (Elt F) f L)) h) :
    v.read (Elt F) (v.writes (Elt F) f (⟨Rect.unit (s := S2320x1024) off S272x1024.size inb, pay⟩ :: L)) = step xt i hc x0 x1 q (v.read (Elt F) (v.writes (Elt F) f L)) := by
  subst hw ho hp hh hpay
  exact View.read_writes_cons_put v f inb _ L rfl

/-! ## The feed-forward -/

/-- Rows `512 k … 512 k + 511` of the scratch. -/
def rowsPart (x : Vec F S2320x1024 .f32) (k : Fin 4) : Vec F S512x1024 .f32 :=
  fun z => x (ix2 ⟨512 * k.val + (z 0).val, by
    have h : (z 0).val < 512 := (z 0).isLt
    have := k.isLt
    omega⟩ (z 1))

/-- What the last grid point of a row leaves in the output block: rows below 2048 the gated feed-forward of the gathered
    rows, 512 rows at a time, and the 272 rows past them zero. -/
def ffn (x2 x3 x4 : Vec F S1x1024x1024 .bf16) (x : Vec F S2320x1024 .f32) : Vec F S1x1x2320x1024 .bf16 := fun y =>
  if h : (y 2).val < 2048 then
    k0_pay3 (rowsPart x ⟨(y 2).val / 512, by omega⟩) x2 x3 x4 (ix4 0 0 ⟨(y 2).val % 512, Nat.mod_lt _ (by omega)⟩ (y 3))
  else
    k0_pay2 (F := F) (ix4 0 0 ⟨(y 2).val - 2048, by
      have hy : (y 2).val < 2320 := (y 2).isLt
      omega⟩ (y 3))

/-- A put of whole rows of the output block, at a row it writes. -/
theorem putRows_mem {α : Type} (x : S1x1x2320x1024.Idx → α) (o W : ℕ) (w : ((a : Fin 4) → Fin ((![1, 1, W, 1024] : Fin 4 → ℕ) a)) → α) (y : S1x1x2320x1024.Idx)
    (h : o ≤ (y 2).val ∧ (y 2).val < o + W) :
    VecWindow.put x ![0, 0, o, 0] ![1, 1, W, 1024] w y = w (ix4 0 0 ⟨(y 2).val - o, by omega⟩ (y 3)) := by
  have h0 : (y 0).val < 1 := (y 0).isLt
  have h1 : (y 1).val < 1 := (y 1).isLt
  have h3 : (y 3).val < 1024 := (y 3).isLt
  have hm : ∀ a : Fin 4, (![0, 0, o, 0] : Fin 4 → ℕ) a ≤ (y a).val ∧ (y a).val < (![0, 0, o, 0] : Fin 4 → ℕ) a + (![1, 1, W, 1024] : Fin 4 → ℕ) a := fun a => by
    match a with
    | ⟨0, _⟩ => exact ⟨Nat.zero_le _, by show (y 0).val < 0 + 1; omega⟩
    | ⟨1, _⟩ => exact ⟨Nat.zero_le _, by show (y 1).val < 0 + 1; omega⟩
    | ⟨2, _⟩ => exact h
    | ⟨3, _⟩ => exact ⟨Nat.zero_le _, by show (y 3).val < 0 + 1024; omega⟩
  refine (dif_pos hm).trans (congrArg w (funext fun a => Fin.ext ?_))
  match a with
  | ⟨0, _⟩ => show (y 0).val - 0 = 0; omega
  | ⟨1, _⟩ => show (y 1).val - 0 = 0; omega
  | ⟨2, _⟩ => rfl
  | ⟨3, _⟩ => rfl

/-- A put of whole rows of the output block, at a row it does not write. -/
theorem putRows_miss {α : Type} (x : S1x1x2320x1024.Idx → α) (o W : ℕ) (w : ((a : Fin 4) → Fin ((![1, 1, W, 1024] : Fin 4 → ℕ) a)) → α) (y : S1x1x2320x1024.Idx)
    (h : ¬(o ≤ (y 2).val ∧ (y 2).val < o + W)) :
    VecWindow.put x ![0, 0, o, 0] ![1, 1, W, 1024] w y = x y :=
  dif_neg fun hm => h (hm 2)

/-- The four chunks and the zero tail stored into the output block, read back: the feed-forward. -/
theorem read_ffn {sig : RefSig} {κ κ' κ2 κ3 κ4 : Kind} {sp sp' sp2 sp3 sp4 : Space} (v : View sig κ sp S1x1x2320x1024 .bf16) (f : v.ty.Contents (Elt F))
    (v10 : View sig κ' sp' S2320x1024 .f32) (v6 : View sig κ2 sp2 S1x1024x1024 .bf16) (v7 : View sig κ3 sp3 S1x1024x1024 .bf16) (v8 : View sig κ4 sp4 S1x1024x1024 .bf16)
    (g : v10.ty.Contents (Elt F)) (f6 : v6.ty.Contents (Elt F)) (f7 : v7.ty.Contents (Elt F)) (f8 : v8.ty.Contents (Elt F))
    (p0 p1 p2 p3 : Vec F S1x1x512x1024 .bf16)
    (h0 : p0 = k0_pay3 (v10.readAt (Elt F) (Rect.unit (s := S2320x1024) ![0, 0] S512x1024.size inb_S2320x1024_S512x1024_0_0).toLoadRect g)
      (v6.readAt (Elt F) (Rect.unit (s := S1x1024x1024) ![0, 0, 0] S1x1024x1024.size inb_S1x1024x1024_S1x1024x1024_0_0_0).toLoadRect f6)
      (v7.readAt (Elt F) (Rect.unit (s := S1x1024x1024) ![0, 0, 0] S1x1024x1024.size inb_S1x1024x1024_S1x1024x1024_0_0_0).toLoadRect f7)
      (v8.readAt (Elt F) (Rect.unit (s := S1x1024x1024) ![0, 0, 0] S1x1024x1024.size inb_S1x1024x1024_S1x1024x1024_0_0_0).toLoadRect f8))
    (h1 : p1 = k0_pay3 (v10.readAt (Elt F) (Rect.unit (s := S2320x1024) ![512, 0] S512x1024.size inb_S2320x1024_S512x1024_512_0).toLoadRect g)
      (v6.readAt (Elt F) (Rect.unit (s := S1x1024x1024) ![0, 0, 0] S1x1024x1024.size inb_S1x1024x1024_S1x1024x1024_0_0_0).toLoadRect f6)
      (v7.readAt (Elt F) (Rect.unit (s := S1x1024x1024) ![0, 0, 0] S1x1024x1024.size inb_S1x1024x1024_S1x1024x1024_0_0_0).toLoadRect f7)
      (v8.readAt (Elt F) (Rect.unit (s := S1x1024x1024) ![0, 0, 0] S1x1024x1024.size inb_S1x1024x1024_S1x1024x1024_0_0_0).toLoadRect f8))
    (h2 : p2 = k0_pay3 (v10.readAt (Elt F) (Rect.unit (s := S2320x1024) ![1024, 0] S512x1024.size inb_S2320x1024_S512x1024_1024_0).toLoadRect g)
      (v6.readAt (Elt F) (Rect.unit (s := S1x1024x1024) ![0, 0, 0] S1x1024x1024.size inb_S1x1024x1024_S1x1024x1024_0_0_0).toLoadRect f6)
      (v7.readAt (Elt F) (Rect.unit (s := S1x1024x1024) ![0, 0, 0] S1x1024x1024.size inb_S1x1024x1024_S1x1024x1024_0_0_0).toLoadRect f7)
      (v8.readAt (Elt F) (Rect.unit (s := S1x1024x1024) ![0, 0, 0] S1x1024x1024.size inb_S1x1024x1024_S1x1024x1024_0_0_0).toLoadRect f8))
    (h3 : p3 = k0_pay3 (v10.readAt (Elt F) (Rect.unit (s := S2320x1024) ![1536, 0] S512x1024.size inb_S2320x1024_S512x1024_1536_0).toLoadRect g)
      (v6.readAt (Elt F) (Rect.unit (s := S1x1024x1024) ![0, 0, 0] S1x1024x1024.size inb_S1x1024x1024_S1x1024x1024_0_0_0).toLoadRect f6)
      (v7.readAt (Elt F) (Rect.unit (s := S1x1024x1024) ![0, 0, 0] S1x1024x1024.size inb_S1x1024x1024_S1x1024x1024_0_0_0).toLoadRect f7)
      (v8.readAt (Elt F) (Rect.unit (s := S1x1024x1024) ![0, 0, 0] S1x1024x1024.size inb_S1x1024x1024_S1x1024x1024_0_0_0).toLoadRect f8))
    (x2 x3 x4 : Vec F S1x1024x1024 .bf16) (hf6 : v6.read (Elt F) f6 = x2) (hf7 : v7.read (Elt F) f7 = x3) (hf8 : v8.read (Elt F) f8 = x4)
    (x : Vec F S2320x1024 .f32) (hg : v10.read (Elt F) g = x) :
    v.read (Elt F) (v.writes (Elt F) f
      [⟨Rect.unit (s := S1x1x2320x1024) ![0, 0, 2048, 0] ![1, 1, 272, 1024] inb_S1x1x2320x1024_S1x1x272x1024_0_0_2048_0, k0_pay2 (F := F)⟩,
       ⟨Rect.unit (s := S1x1x2320x1024) ![0, 0, 1536, 0] ![1, 1, 512, 1024] inb_S1x1x2320x1024_S1x1x512x1024_0_0_1536_0, p3⟩,
       ⟨Rect.unit (s := S1x1x2320x1024) ![0, 0, 1024, 0] ![1, 1, 512, 1024] inb_S1x1x2320x1024_S1x1x512x1024_0_0_1024_0, p2⟩,
       ⟨Rect.unit (s := S1x1x2320x1024) ![0, 0, 512, 0] ![1, 1, 512, 1024] inb_S1x1x2320x1024_S1x1x512x1024_0_0_512_0, p1⟩,
       ⟨Rect.unit (s := S1x1x2320x1024) ![0, 0, 0, 0] ![1, 1, 512, 1024] inb_S1x1x2320x1024_S1x1x512x1024_0_0_0_0, p0⟩]) = ffn x2 x3 x4 x := by
  subst hf6 hf7 hf8 hg
  rw [View.readAt_full, View.readAt_full, View.readAt_full] at h0 h1 h2 h3
  have rows : ∀ (k : Fin 4) (off : Fin 2 → ℕ) (inb : ∀ a, off a + S512x1024.size a ≤ S2320x1024.size a), off = ![512 * k.val, 0] →
      v10.readAt (Elt F) (Rect.unit (s := S2320x1024) off S512x1024.size inb).toLoadRect g = rowsPart (v10.read (Elt F) g) k := fun k off inb ho => by
    subst ho
    funext z
    refine congrArg (v10.read (Elt F) g) (funext fun a => Fin.ext ?_)
    match a with
    | ⟨0, _⟩ => show 512 * k.val + 1 * (z 0).val = 512 * k.val + (z 0).val; omega
    | ⟨1, _⟩ => show 0 + 1 * (z 1).val = (z 1).val; omega
  rw [rows 0 ![0, 0] _ rfl] at h0
  rw [rows 1 ![512, 0] _ rfl] at h1
  rw [rows 2 ![1024, 0] _ rfl] at h2
  rw [rows 3 ![1536, 0] _ rfl] at h3
  rw [View.read_writes_cons_put v f _ _ _ rfl, View.read_writes_cons_put v f _ _ _ rfl, View.read_writes_cons_put v f _ _ _ rfl,
    View.read_writes_cons_put v f _ _ _ rfl, View.read_writes_cons_put v f _ _ _ rfl]
  funext y
  have hy : (y 2).val < 2320 := (y 2).isLt
  have chunk : ∀ (k : Fin 4) (hk : (y 2).val / 512 = k.val) (hlt : (y 2).val < 2048) (p : Vec F S1x1x512x1024 .bf16) (x2 x3 x4 : Vec F S1x1024x1024 .bf16)
      (x : Vec F S2320x1024 .f32) (hp : p = k0_pay3 (rowsPart x k) x2 x3 x4) (o : ℕ) (ho : o = 512 * k.val) (hr : (y 2).val - o < 512),
      p (ix4 0 0 ⟨(y 2).val - o, hr⟩ (y 3)) = ffn x2 x3 x4 x y := fun k hk hlt p x2 x3 x4 x hp o ho hr => by
    subst hp ho
    unfold ffn
    rw [dif_pos hlt]
    have e1 : (⟨(y 2).val / 512, by omega⟩ : Fin 4) = k := Fin.ext hk
    have e2 : (⟨(y 2).val - 512 * k.val, hr⟩ : Fin 512) = ⟨(y 2).val % 512, Nat.mod_lt _ (by omega)⟩ := Fin.ext (by show _ - _ = _ % _; omega)
    rw [e1, e2]
  by_cases h4 : 2048 ≤ (y 2).val
  · rw [putRows_mem _ 2048 272 _ y ⟨h4, by omega⟩]
    unfold ffn
    rw [dif_neg (by omega)]
  rw [putRows_miss _ 2048 272 _ y (by omega)]
  by_cases h5 : 1536 ≤ (y 2).val
  · rw [putRows_mem _ 1536 512 _ y ⟨h5, by omega⟩]
    exact chunk 3 (by show _ = 3; omega) (by omega) _ _ _ _ _ h3 1536 rfl (by omega)
  rw [putRows_miss _ 1536 512 _ y (by omega)]
  by_cases h6 : 1024 ≤ (y 2).val
  · rw [putRows_mem _ 1024 512 _ y ⟨h6, by omega⟩]
    exact chunk 2 (by show _ = 2; omega) (by omega) _ _ _ _ _ h2 1024 rfl (by omega)
  rw [putRows_miss _ 1024 512 _ y (by omega)]
  by_cases h7 : 512 ≤ (y 2).val
  · rw [putRows_mem _ 512 512 _ y ⟨h7, by omega⟩]
    exact chunk 1 (by show _ = 1; omega) (by omega) _ _ _ _ _ h1 512 rfl (by omega)
  rw [putRows_miss _ 512 512 _ y (by omega), putRows_mem _ 0 512 _ y ⟨Nat.zero_le _, by omega⟩]
  exact chunk 0 (by show _ = 0; omega) (by omega) _ _ _ _ _ h0 0 rfl (by omega)

end Cert.KernelIdeal.Expert

end
-- ==== Proof.Ideal.RunA.lean ====
/- The body run at the points of case A. -/
module

public import proofs.«01_k».proof.Proof.Ideal.Gather

@[expose] public section

set_option maxRecDepth 16384

noncomputable section

namespace Cert.KernelIdeal.Expert

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1024000 in
/-- The body at the first point of a row of the grid (`j = 0`): whatever the scratch held, it ends at the eight gathers over
    zero rows; the output block is not touched. -/
theorem runA (c : Dev nD) (i : grid0.Coords) (arg4 : Memref sig .tc .vmem S1x2048x1024 .bf16) (harg4 : arg4.IsWhole) (arg5 : Memref sig .tc .vmem S1x1x1x2048 .i32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1x2320x1024 .bf16) (harg9 : arg9.IsWhole) (arg10 : Memref sig .tc .vmem S2320x1024 .f32) (harg10 : arg10.IsWhole) (hc0 : cond0_0 i) (hc1 : ¬cond0_1 i)
    (x0 : Vec F S1x2048x1024 .bf16) (x1 : Vec F S1x1x1x2048 .i32) (x2 : Vec F S1x1024x1024 .bf16) (x3 : Vec F S1x1024x1024 .bf16) (x4 : Vec F S1x1024x1024 .bf16)
    (xt0 : TbBuf0 (F := F) c tbM0_0) (hc : ChkAt xt0 i) (xi5 : Vec F S1x1x2320x1024 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xi5 ∗ (∃ d, owns (c : Thread nD τ) arg10 fullShare d) ∗ tbPt0 c tbM0_0 xt0
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xi5 ∗ owns (c : Thread nD τ) arg10 fullShare (gather xt0 i hc x0 x1 (k0_pay13 (F := F))) ∗ tbPt0 c tbM0_0 xt0) -∗ K ⟨⟩))
      ⊢ wp frame (wpE (defs₀ (F := F)) Variants.none c none) E (cc0_expert_ffn i tbM0_0 htbM0_0 arg4 harg4 arg5 harg5 arg6 harg6 arg7 harg7 arg8 harg8 arg9 harg9 arg10 harg10) K := by
  simp only [cc0_expert_ffn_eq_skeleton]; unfold cc0_expert_ffn_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%xs, %fs, %hfs, HS⟩, HT, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs
  sl_exec (disch := first | sl_exact hc0)
  rw [harg10.eq_unread (View.read_writes_full (Val := Elt F) arg10.view _ inb_S2320x1024_S2320x1024_0_0 (k0_pay13 (F := F)) [])]
  have w1 := readAt_start (F := F) xt0 i 0 (k0_off1 i) (k0_off1_inb i) (off_start i).1
  have w2 := readAt_start (F := F) xt0 i 1 (k0_off3 i) (k0_off3_inb i) (off_start i).2.1
  have w3 := readAt_start (F := F) xt0 i 2 (k0_off5 i) (k0_off5_inb i) (off_start i).2.2.1
  have w4 := readAt_start (F := F) xt0 i 3 (k0_off7 i) (k0_off7_inb i) (off_start i).2.2.2.1
  have w5 := readAt_start (F := F) xt0 i 4 (k0_off9 i) (k0_off9_inb i) (off_start i).2.2.2.2.1
  have w6 := readAt_start (F := F) xt0 i 5 (k0_off11 i) (k0_off11_inb i) (off_start i).2.2.2.2.2.1
  have w7 := readAt_start (F := F) xt0 i 6 (k0_off13 i) (k0_off13_inb i) (off_start i).2.2.2.2.2.2.1
  have w8 := readAt_start (F := F) xt0 i 7 (k0_off15 i) (k0_off15_inb i) (off_start i).2.2.2.2.2.2.2
  have k0_hw1 : k0_chk1 (tbM0_0.view.readAt (Elt F) (Rect.unit (s := S2048) (k0_off1 i) S1.size (k0_off1_inb i)).toLoadRect xt0 (Shape.Idx.first (numel1_S1.symm ▸ Nat.one_pos))) := by rw [w1]; exact hc 0
  have k0_hw2 : k0_chk2 (tbM0_0.view.readAt (Elt F) (Rect.unit (s := S2048) (k0_off3 i) S1.size (k0_off3_inb i)).toLoadRect xt0 (Shape.Idx.first (numel1_S1.symm ▸ Nat.one_pos))) := by rw [w2]; exact hc 1
  have k0_hw3 : k0_chk3 (tbM0_0.view.readAt (Elt F) (Rect.unit (s := S2048) (k0_off5 i) S1.size (k0_off5_inb i)).toLoadRect xt0 (Shape.Idx.first (numel1_S1.symm ▸ Nat.one_pos))) := by rw [w3]; exact hc 2
  have k0_hw4 : k0_chk4 (tbM0_0.view.readAt (Elt F) (Rect.unit (s := S2048) (k0_off7 i) S1.size (k0_off7_inb i)).toLoadRect xt0 (Shape.Idx.first (numel1_S1.symm ▸ Nat.one_pos))) := by rw [w4]; exact hc 3
  have k0_hw5 : k0_chk5 (tbM0_0.view.readAt (Elt F) (Rect.unit (s := S2048) (k0_off9 i) S1.size (k0_off9_inb i)).toLoadRect xt0 (Shape.Idx.first (numel1_S1.symm ▸ Nat.one_pos))) := by rw [w5]; exact hc 4
  have k0_hw6 : k0_chk6 (tbM0_0.view.readAt (Elt F) (Rect.unit (s := S2048) (k0_off11 i) S1.size (k0_off11_inb i)).toLoadRect xt0 (Shape.Idx.first (numel1_S1.symm ▸ Nat.one_pos))) := by rw [w6]; exact hc 5
  have k0_hw7 : k0_chk7 (tbM0_0.view.readAt (Elt F) (Rect.unit (s := S2048) (k0_off13 i) S1.size (k0_off13_inb i)).toLoadRect xt0 (Shape.Idx.first (numel1_S1.symm ▸ Nat.one_pos))) := by rw [w7]; exact hc 6
  have k0_hw8 : k0_chk8 (tbM0_0.view.readAt (Elt F) (Rect.unit (s := S2048) (k0_off15 i) S1.size (k0_off15_inb i)).toLoadRect xt0 (Shape.Idx.first (numel1_S1.symm ▸ Nat.one_pos))) := by rw [w8]; exact hc 7
  sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS]
  · iexists _; isplitr; swap; · iexact HS
    ipureintro
    refine (read_step arg10.view _ _ xt0 i hc x0 x1 7 _ w8 _ rfl _ (readAt_pos _ _ hf1 7 _ _ rfl) _ (readAt_tok _ _ hf0 7 _ _ rfl) _ rfl).trans (congrArg (step xt0 i hc x0 x1 7) ?_)
    refine (read_step arg10.view _ _ xt0 i hc x0 x1 6 _ w7 _ rfl _ (readAt_pos _ _ hf1 6 _ _ rfl) _ (readAt_tok _ _ hf0 6 _ _ rfl) _ rfl).trans (congrArg (step xt0 i hc x0 x1 6) ?_)
    refine (read_step arg10.view _ _ xt0 i hc x0 x1 5 _ w6 _ rfl _ (readAt_pos _ _ hf1 5 _ _ rfl) _ (readAt_tok _ _ hf0 5 _ _ rfl) _ rfl).trans (congrArg (step xt0 i hc x0 x1 5) ?_)
    refine (read_step arg10.view _ _ xt0 i hc x0 x1 4 _ w5 _ rfl _ (readAt_pos _ _ hf1 4 _ _ rfl) _ (readAt_tok _ _ hf0 4 _ _ rfl) _ rfl).trans (congrArg (step xt0 i hc x0 x1 4) ?_)
    refine (read_step arg10.view _ _ xt0 i hc x0 x1 3 _ w4 _ rfl _ (readAt_pos _ _ hf1 3 _ _ rfl) _ (readAt_tok _ _ hf0 3 _ _ rfl) _ rfl).trans (congrArg (step xt0 i hc x0 x1 3) ?_)
    refine (read_step arg10.view _ _ xt0 i hc x0 x1 2 _ w3 _ rfl _ (readAt_pos _ _ hf1 2 _ _ rfl) _ (readAt_tok _ _ hf0 2 _ _ rfl) _ rfl).trans (congrArg (step xt0 i hc x0 x1 2) ?_)
    refine (read_step arg10.view _ _ xt0 i hc x0 x1 1 _ w2 _ rfl _ (readAt_pos _ _ hf1 1 _ _ rfl) _ (readAt_tok _ _ hf0 1 _ _ rfl) _ rfl).trans (congrArg (step xt0 i hc x0 x1 1) ?_)
    refine (read_step arg10.view _ _ xt0 i hc x0 x1 0 _ w1 _ rfl _ (readAt_pos _ _ hf1 0 _ _ rfl) _ (readAt_tok _ _ hf0 0 _ _ rfl) _ rfl).trans (congrArg (step xt0 i hc x0 x1 0) ?_)
    exact harg10.read_unread _
  iexact HT

end Cert.KernelIdeal.Expert

end
-- ==== Proof.Ideal.RunB.lean ====
/- The body run at the points of case B. -/
module

public import proofs.«01_k».proof.Proof.Ideal.Gather

@[expose] public section

set_option maxRecDepth 16384

noncomputable section

namespace Cert.KernelIdeal.Expert

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1024000 in
/-- The body at an inner point of a row of the grid: the scratch gains the eight gathers; the output block is not touched. -/
theorem runB (c : Dev nD) (i : grid0.Coords) (arg4 : Memref sig .tc .vmem S1x2048x1024 .bf16) (harg4 : arg4.IsWhole) (arg5 : Memref sig .tc .vmem S1x1x1x2048 .i32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1x2320x1024 .bf16) (harg9 : arg9.IsWhole) (arg10 : Memref sig .tc .vmem S2320x1024 .f32) (harg10 : arg10.IsWhole) (hc0 : ¬cond0_0 i) (hc1 : ¬cond0_1 i)
    (x0 : Vec F S1x2048x1024 .bf16) (x1 : Vec F S1x1x1x2048 .i32) (x2 : Vec F S1x1024x1024 .bf16) (x3 : Vec F S1x1024x1024 .bf16) (x4 : Vec F S1x1024x1024 .bf16)
    (xt0 : TbBuf0 (F := F) c tbM0_0) (hc : ChkAt xt0 i) (xs : Vec F S2320x1024 .f32) (xi5 : Vec F S1x1x2320x1024 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xi5 ∗ owns (c : Thread nD τ) arg10 fullShare xs ∗ tbPt0 c tbM0_0 xt0
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xi5 ∗ owns (c : Thread nD τ) arg10 fullShare (gather xt0 i hc x0 x1 xs) ∗ tbPt0 c tbM0_0 xt0) -∗ K ⟨⟩))
      ⊢ wp frame (wpE (defs₀ (F := F)) Variants.none c none) E (cc0_expert_ffn i tbM0_0 htbM0_0 arg4 harg4 arg5 harg5 arg6 harg6 arg7 harg7 arg8 harg8 arg9 harg9 arg10 harg10) K := by
  have w1 := readAt_start (F := F) xt0 i 0 (k0_off1 i) (k0_off1_inb i) (off_start i).1
  have w2 := readAt_start (F := F) xt0 i 1 (k0_off3 i) (k0_off3_inb i) (off_start i).2.1
  have w3 := readAt_start (F := F) xt0 i 2 (k0_off5 i) (k0_off5_inb i) (off_start i).2.2.1
  have w4 := readAt_start (F := F) xt0 i 3 (k0_off7 i) (k0_off7_inb i) (off_start i).2.2.2.1
  have w5 := readAt_start (F := F) xt0 i 4 (k0_off9 i) (k0_off9_inb i) (off_start i).2.2.2.2.1
  have w6 := readAt_start (F := F) xt0 i 5 (k0_off11 i) (k0_off11_inb i) (off_start i).2.2.2.2.2.1
  have w7 := readAt_start (F := F) xt0 i 6 (k0_off13 i) (k0_off13_inb i) (off_start i).2.2.2.2.2.2.1
  have w8 := readAt_start (F := F) xt0 i 7 (k0_off15 i) (k0_off15_inb i) (off_start i).2.2.2.2.2.2.2
  have k0_hw1 : k0_chk1 (tbM0_0.view.readAt (Elt F) (Rect.unit (s := S2048) (k0_off1 i) S1.size (k0_off1_inb i)).toLoadRect xt0 (Shape.Idx.first (numel1_S1.symm ▸ Nat.one_pos))) := by rw [w1]; exact hc 0
  have k0_hw2 : k0_chk2 (tbM0_0.view.readAt (Elt F) (Rect.unit (s := S2048) (k0_off3 i) S1.size (k0_off3_inb i)).toLoadRect xt0 (Shape.Idx.first (numel1_S1.symm ▸ Nat.one_pos))) := by rw [w2]; exact hc 1
  have k0_hw3 : k0_chk3 (tbM0_0.view.readAt (Elt F) (Rect.unit (s := S2048) (k0_off5 i) S1.size (k0_off5_inb i)).toLoadRect xt0 (Shape.Idx.first (numel1_S1.symm ▸ Nat.one_pos))) := by rw [w3]; exact hc 2
  have k0_hw4 : k0_chk4 (tbM0_0.view.readAt (Elt F) (Rect.unit (s := S2048) (k0_off7 i) S1.size (k0_off7_inb i)).toLoadRect xt0 (Shape.Idx.first (numel1_S1.symm ▸ Nat.one_pos))) := by rw [w4]; exact hc 3
  have k0_hw5 : k0_chk5 (tbM0_0.view.readAt (Elt F) (Rect.unit (s := S2048) (k0_off9 i) S1.size (k0_off9_inb i)).toLoadRect xt0 (Shape.Idx.first (numel1_S1.symm ▸ Nat.one_pos))) := by rw [w5]; exact hc 4
  have k0_hw6 : k0_chk6 (tbM0_0.view.readAt (Elt F) (Rect.unit (s := S2048) (k0_off11 i) S1.size (k0_off11_inb i)).toLoadRect xt0 (Shape.Idx.first (numel1_S1.symm ▸ Nat.one_pos))) := by rw [w6]; exact hc 5
  have k0_hw7 : k0_chk7 (tbM0_0.view.readAt (Elt F) (Rect.unit (s := S2048) (k0_off13 i) S1.size (k0_off13_inb i)).toLoadRect xt0 (Shape.Idx.first (numel1_S1.symm ▸ Nat.one_pos))) := by rw [w7]; exact hc 6
  have k0_hw8 : k0_chk8 (tbM0_0.view.readAt (Elt F) (Rect.unit (s := S2048) (k0_off15 i) S1.size (k0_off15_inb i)).toLoadRect xt0 (Shape.Idx.first (numel1_S1.symm ▸ Nat.one_pos))) := by rw [w8]; exact hc 7
  simp only [cc0_expert_ffn_eq_skeleton]; unfold cc0_expert_ffn_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, HT, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs
  sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS]
  · iexists _; isplitr; swap; · iexact HS
    ipureintro
    refine (read_step arg10.view _ _ xt0 i hc x0 x1 7 _ w8 _ rfl _ (readAt_pos _ _ hf1 7 _ _ rfl) _ (readAt_tok _ _ hf0 7 _ _ rfl) _ rfl).trans (congrArg (step xt0 i hc x0 x1 7) ?_)
    refine (read_step arg10.view _ _ xt0 i hc x0 x1 6 _ w7 _ rfl _ (readAt_pos _ _ hf1 6 _ _ rfl) _ (readAt_tok _ _ hf0 6 _ _ rfl) _ rfl).trans (congrArg (step xt0 i hc x0 x1 6) ?_)
    refine (read_step arg10.view _ _ xt0 i hc x0 x1 5 _ w6 _ rfl _ (readAt_pos _ _ hf1 5 _ _ rfl) _ (readAt_tok _ _ hf0 5 _ _ rfl) _ rfl).trans (congrArg (step xt0 i hc x0 x1 5) ?_)
    refine (read_step arg10.view _ _ xt0 i hc x0 x1 4 _ w5 _ rfl _ (readAt_pos _ _ hf1 4 _ _ rfl) _ (readAt_tok _ _ hf0 4 _ _ rfl) _ rfl).trans (congrArg (step xt0 i hc x0 x1 4) ?_)
    refine (read_step arg10.view _ _ xt0 i hc x0 x1 3 _ w4 _ rfl _ (readAt_pos _ _ hf1 3 _ _ rfl) _ (readAt_tok _ _ hf0 3 _ _ rfl) _ rfl).trans (congrArg (step xt0 i hc x0 x1 3) ?_)
    refine (read_step arg10.view _ _ xt0 i hc x0 x1 2 _ w3 _ rfl _ (readAt_pos _ _ hf1 2 _ _ rfl) _ (readAt_tok _ _ hf0 2 _ _ rfl) _ rfl).trans (congrArg (step xt0 i hc x0 x1 2) ?_)
    refine (read_step arg10.view _ _ xt0 i hc x0 x1 1 _ w2 _ rfl _ (readAt_pos _ _ hf1 1 _ _ rfl) _ (readAt_tok _ _ hf0 1 _ _ rfl) _ rfl).trans (congrArg (step xt0 i hc x0 x1 1) ?_)
    refine (read_step arg10.view _ _ xt0 i hc x0 x1 0 _ w1 _ rfl _ (readAt_pos _ _ hf1 0 _ _ rfl) _ (readAt_tok _ _ hf0 0 _ _ rfl) _ rfl).trans (congrArg (step xt0 i hc x0 x1 0) ?_)
    exact hfs
  iexact HT

end Cert.KernelIdeal.Expert

end
-- ==== Proof.Ideal.RunC.lean ====
/- The body run at the points of case C. -/
module

public import proofs.«01_k».proof.Proof.Ideal.Gather

@[expose] public section

set_option maxRecDepth 16384

noncomputable section

namespace Cert.KernelIdeal.Expert

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1024000 in
/-- The body at the last point of a row of the grid (`j = 7`): the scratch gains the eight gathers, and the output block ends
    at the feed-forward of the scratch. -/
theorem runC (c : Dev nD) (i : grid0.Coords) (arg4 : Memref sig .tc .vmem S1x2048x1024 .bf16) (harg4 : arg4.IsWhole) (arg5 : Memref sig .tc .vmem S1x1x1x2048 .i32) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1x2320x1024 .bf16) (harg9 : arg9.IsWhole) (arg10 : Memref sig .tc .vmem S2320x1024 .f32) (harg10 : arg10.IsWhole) (hc0 : ¬cond0_0 i) (hc1 : cond0_1 i)
    (x0 : Vec F S1x2048x1024 .bf16) (x1 : Vec F S1x1x1x2048 .i32) (x2 : Vec F S1x1024x1024 .bf16) (x3 : Vec F S1x1024x1024 .bf16) (x4 : Vec F S1x1024x1024 .bf16)
    (xt0 : TbBuf0 (F := F) c tbM0_0) (hc : ChkAt xt0 i) (xs : Vec F S2320x1024 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs ∗ tbPt0 c tbM0_0 xt0
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (ffn x2 x3 x4 (gather xt0 i hc x0 x1 xs)) ∗ owns (c : Thread nD τ) arg10 fullShare (gather xt0 i hc x0 x1 xs) ∗ tbPt0 c tbM0_0 xt0) -∗ K ⟨⟩))
      ⊢ wp frame (wpE (defs₀ (F := F)) Variants.none c none) E (cc0_expert_ffn i tbM0_0 htbM0_0 arg4 harg4 arg5 harg5 arg6 harg6 arg7 harg7 arg8 harg8 arg9 harg9 arg10 harg10) K := by
  have w1 := readAt_start (F := F) xt0 i 0 (k0_off1 i) (k0_off1_inb i) (off_start i).1
  have w2 := readAt_start (F := F) xt0 i 1 (k0_off3 i) (k0_off3_inb i) (off_start i).2.1
  have w3 := readAt_start (F := F) xt0 i 2 (k0_off5 i) (k0_off5_inb i) (off_start i).2.2.1
  have w4 := readAt_start (F := F) xt0 i 3 (k0_off7 i) (k0_off7_inb i) (off_start i).2.2.2.1
  have w5 := readAt_start (F := F) xt0 i 4 (k0_off9 i) (k0_off9_inb i) (off_start i).2.2.2.2.1
  have w6 := readAt_start (F := F) xt0 i 5 (k0_off11 i) (k0_off11_inb i) (off_start i).2.2.2.2.2.1
  have w7 := readAt_start (F := F) xt0 i 6 (k0_off13 i) (k0_off13_inb i) (off_start i).2.2.2.2.2.2.1
  have w8 := readAt_start (F := F) xt0 i 7 (k0_off15 i) (k0_off15_inb i) (off_start i).2.2.2.2.2.2.2
  have k0_hw1 : k0_chk1 (tbM0_0.view.readAt (Elt F) (Rect.unit (s := S2048) (k0_off1 i) S1.size (k0_off1_inb i)).toLoadRect xt0 (Shape.Idx.first (numel1_S1.symm ▸ Nat.one_pos))) := by rw [w1]; exact hc 0
  have k0_hw2 : k0_chk2 (tbM0_0.view.readAt (Elt F) (Rect.unit (s := S2048) (k0_off3 i) S1.size (k0_off3_inb i)).toLoadRect xt0 (Shape.Idx.first (numel1_S1.symm ▸ Nat.one_pos))) := by rw [w2]; exact hc 1
  have k0_hw3 : k0_chk3 (tbM0_0.view.readAt (Elt F) (Rect.unit (s := S2048) (k0_off5 i) S1.size (k0_off5_inb i)).toLoadRect xt0 (Shape.Idx.first (numel1_S1.symm ▸ Nat.one_pos))) := by rw [w3]; exact hc 2
  have k0_hw4 : k0_chk4 (tbM0_0.view.readAt (Elt F) (Rect.unit (s := S2048) (k0_off7 i) S1.size (k0_off7_inb i)).toLoadRect xt0 (Shape.Idx.first (numel1_S1.symm ▸ Nat.one_pos))) := by rw [w4]; exact hc 3
  have k0_hw5 : k0_chk5 (tbM0_0.view.readAt (Elt F) (Rect.unit (s := S2048) (k0_off9 i) S1.size (k0_off9_inb i)).toLoadRect xt0 (Shape.Idx.first (numel1_S1.symm ▸ Nat.one_pos))) := by rw [w5]; exact hc 4
  have k0_hw6 : k0_chk6 (tbM0_0.view.readAt (Elt F) (Rect.unit (s := S2048) (k0_off11 i) S1.size (k0_off11_inb i)).toLoadRect xt0 (Shape.Idx.first (numel1_S1.symm ▸ Nat.one_pos))) := by rw [w6]; exact hc 5
  have k0_hw7 : k0_chk7 (tbM0_0.view.readAt (Elt F) (Rect.unit (s := S2048) (k0_off13 i) S1.size (k0_off13_inb i)).toLoadRect xt0 (Shape.Idx.first (numel1_S1.symm ▸ Nat.one_pos))) := by rw [w7]; exact hc 6
  have k0_hw8 : k0_chk8 (tbM0_0.view.readAt (Elt F) (Rect.unit (s := S2048) (k0_off15 i) S1.size (k0_off15_inb i)).toLoadRect xt0 (Shape.Idx.first (numel1_S1.symm ▸ Nat.one_pos))) := by rw [w8]; exact hc 7
  simp only [cc0_expert_ffn_eq_skeleton]; unfold cc0_expert_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%xi5, %f5, %hf5, H5⟩, ⟨%fs, %hfs, HS⟩, HT, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs
  sl_exec (disch := first | sl_exact hc0 | sl_exact hc1 | sl_exact k0_hw1 | sl_exact k0_hw2 | sl_exact k0_hw3 | sl_exact k0_hw4 | sl_exact k0_hw5 | sl_exact k0_hw6 | sl_exact k0_hw7 | sl_exact k0_hw8)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine read_ffn arg9.view _ arg10.view arg6.view arg7.view arg8.view ?g _ _ _ _ _ _ _ ?h0 ?h1 ?h2 ?h3 x2 x3 x4 hf2 hf3 hf4 _ ?hg
    case h0 => rfl
    case h1 => rfl
    case h2 => rfl
    case h3 => rfl
    refine (read_step arg10.view _ _ xt0 i hc x0 x1 7 _ w8 _ rfl _ (readAt_pos _ _ hf1 7 _ _ rfl) _ (readAt_tok _ _ hf0 7 _ _ rfl) _ rfl).trans (congrArg (step xt0 i hc x0 x1 7) ?_)
    refine (read_step arg10.view _ _ xt0 i hc x0 x1 6 _ w7 _ rfl _ (readAt_pos _ _ hf1 6 _ _ rfl) _ (readAt_tok _ _ hf0 6 _ _ rfl) _ rfl).trans (congrArg (step xt0 i hc x0 x1 6) ?_)
    refine (read_step arg10.view _ _ xt0 i hc x0 x1 5 _ w6 _ rfl _ (readAt_pos _ _ hf1 5 _ _ rfl) _ (readAt_tok _ _ hf0 5 _ _ rfl) _ rfl).trans (congrArg (step xt0 i hc x0 x1 5) ?_)
    refine (read_step arg10.view _ _ xt0 i hc x0 x1 4 _ w5 _ rfl _ (readAt_pos _ _ hf1 4 _ _ rfl) _ (readAt_tok _ _ hf0 4 _ _ rfl) _ rfl).trans (congrArg (step xt0 i hc x0 x1 4) ?_)
    refine (read_step arg10.view _ _ xt0 i hc x0 x1 3 _ w4 _ rfl _ (readAt_pos _ _ hf1 3 _ _ rfl) _ (readAt_tok _ _ hf0 3 _ _ rfl) _ rfl).trans (congrArg (step xt0 i hc x0 x1 3) ?_)
    refine (read_step arg10.view _ _ xt0 i hc x0 x1 2 _ w3 _ rfl _ (readAt_pos _ _ hf1 2 _ _ rfl) _ (readAt_tok _ _ hf0 2 _ _ rfl) _ rfl).trans (congrArg (step xt0 i hc x0 x1 2) ?_)
    refine (read_step arg10.view _ _ xt0 i hc x0 x1 1 _ w2 _ rfl _ (readAt_pos _ _ hf1 1 _ _ rfl) _ (readAt_tok _ _ hf0 1 _ _ rfl) _ rfl).trans (congrArg (step xt0 i hc x0 x1 1) ?_)
    refine (read_step arg10.view _ _ xt0 i hc x0 x1 0 _ w1 _ rfl _ (readAt_pos _ _ hf1 0 _ _ rfl) _ (readAt_tok _ _ hf0 0 _ _ rfl) _ rfl).trans (congrArg (step xt0 i hc x0 x1 0) ?_)
    exact hfs
  isplitl [HS]
  · iexists _; isplitr; swap; · iexact HS
    ipureintro
    refine (read_step arg10.view _ _ xt0 i hc x0 x1 7 _ w8 _ rfl _ (readAt_pos _ _ hf1 7 _ _ rfl) _ (readAt_tok _ _ hf0 7 _ _ rfl) _ rfl).trans (congrArg (step xt0 i hc x0 x1 7) ?_)
    refine (read_step arg10.view _ _ xt0 i hc x0 x1 6 _ w7 _ rfl _ (readAt_pos _ _ hf1 6 _ _ rfl) _ (readAt_tok _ _ hf0 6 _ _ rfl) _ rfl).trans (congrArg (step xt0 i hc x0 x1 6) ?_)
    refine (read_step arg10.view _ _ xt0 i hc x0 x1 5 _ w6 _ rfl _ (readAt_pos _ _ hf1 5 _ _ rfl) _ (readAt_tok _ _ hf0 5 _ _ rfl) _ rfl).trans (congrArg (step xt0 i hc x0 x1 5) ?_)
    refine (read_step arg10.view _ _ xt0 i hc x0 x1 4 _ w5 _ rfl _ (readAt_pos _ _ hf1 4 _ _ rfl) _ (readAt_tok _ _ hf0 4 _ _ rfl) _ rfl).trans (congrArg (step xt0 i hc x0 x1 4) ?_)
    refine (read_step arg10.view _ _ xt0 i hc x0 x1 3 _ w4 _ rfl _ (readAt_pos _ _ hf1 3 _ _ rfl) _ (readAt_tok _ _ hf0 3 _ _ rfl) _ rfl).trans (congrArg (step xt0 i hc x0 x1 3) ?_)
    refine (read_step arg10.view _ _ xt0 i hc x0 x1 2 _ w3 _ rfl _ (readAt_pos _ _ hf1 2 _ _ rfl) _ (readAt_tok _ _ hf0 2 _ _ rfl) _ rfl).trans (congrArg (step xt0 i hc x0 x1 2) ?_)
    refine (read_step arg10.view _ _ xt0 i hc x0 x1 1 _ w2 _ rfl _ (readAt_pos _ _ hf1 1 _ _ rfl) _ (readAt_tok _ _ hf0 1 _ _ rfl) _ rfl).trans (congrArg (step xt0 i hc x0 x1 1) ?_)
    refine (read_step arg10.view _ _ xt0 i hc x0 x1 0 _ w1 _ rfl _ (readAt_pos _ _ hf1 0 _ _ rfl) _ (readAt_tok _ _ hf0 0 _ _ rfl) _ rfl).trans (congrArg (step xt0 i hc x0 x1 0) ?_)
    exact hfs
  iexact HT

end Cert.KernelIdeal.Expert

end
-- ==== Proof.Ideal.Frame.lean ====
/- The frame of the expert call: what the scratch and the output block hold after every grid point, the invariant that
   carries the scratch from point to point, and the run of the whole program. -/
module

public import proofs.«01_k».proof.Proof.Ideal.RunA
public import proofs.«01_k».proof.Proof.Ideal.RunB
public import proofs.«01_k».proof.Proof.Ideal.RunC
public import Idealize.ShloMosaic.Lib.Claim

@[expose] public section

set_option maxRecDepth 16384

noncomputable section

namespace Cert.KernelIdeal.Expert

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The side conditions of every grid point, over the table's words at launch. -/
def Hyps : Prop := ∀ t : Fin grid0.N, ChkAt (tbl m 0) (grid0.coords t)

/-- What the scratch holds after point `n`: the point's gathers, over zero rows at the first point of a row of the grid and
    over what the point before left at the others. -/
def scrAt (hO : Ok m) (hH : Hyps m) (c : Dev nD) : (n : ℕ) → n < grid0.N → Vec F S2320x1024 .f32
  | 0, h => gather (tbl m 0) (grid0.coords ⟨0, h⟩) (hH ⟨0, h⟩) (iblk m hO c 0 ⟨0, h⟩) (iblk m hO c 1 ⟨0, h⟩) (k0_pay13 (F := F))
  | n + 1, h => gather (tbl m 0) (grid0.coords ⟨n + 1, h⟩) (hH ⟨n + 1, h⟩) (iblk m hO c 0 ⟨n + 1, h⟩) (iblk m hO c 1 ⟨n + 1, h⟩)
      (if (n + 1) % 8 = 0 then k0_pay13 (F := F) else scrAt hO hH c n (Nat.lt_of_succ_lt h))

/-- At the first point of a row of the grid the scratch starts over. -/
theorem scrAt_first (hO : Ok m) (hH : Hyps m) (c : Dev nD) (t : Fin grid0.N) (h0 : t.val % 8 = 0) :
    scrAt m hO hH c t.val t.isLt = gather (tbl m 0) (grid0.coords t) (hH t) (iblk m hO c 0 t) (iblk m hO c 1 t) (k0_pay13 (F := F)) := by
  obtain ⟨n, hn⟩ := t
  cases n with
  | zero => rfl
  | succ n => exact congrArg (gather _ _ _ _ _) (if_pos h0)

/-- At a later point it goes on from what the point before left. -/
theorem scrAt_later (hO : Ok m) (hH : Hyps m) (c : Dev nD) (t : Fin grid0.N) (h0 : ¬t.val % 8 = 0) :
    scrAt m hO hH c t.val t.isLt = gather (tbl m 0) (grid0.coords t) (hH t) (iblk m hO c 0 t) (iblk m hO c 1 t)
      (scrAt m hO hH c (t.val - 1) (Nat.lt_of_le_of_lt (Nat.sub_le _ _) t.isLt)) := by
  obtain ⟨n, hn⟩ := t
  cases n with
  | zero => exact absurd rfl h0
  | succ n => exact congrArg (gather _ _ _ _ _) (if_neg h0)

/-- What the output block holds after a point that writes it. -/
def outAt (hO : Ok m) (hH : Hyps m) (c : Dev nD) (t : Fin grid0.N) : Vec F S1x1x2320x1024 .bf16 :=
  ffn (iblk m hO c 2 t) (iblk m hO c 3 t) (iblk m hO c 4 t) (scrAt m hO hH c t.val t.isLt)

/-! ## The invariant and the proof data -/

/-- The invariant before point `n`: the scratch at what the point before left (at anything before the first point), the
    generator register at some state, and the table. -/
def PhiS (hO : Ok m) (hH : Hyps m) (c : Dev nD) : (n : ℕ) → n ≤ grid0.N → sProp 𝕄
  | 0, _ => iprop(Pipeline.ΦA spec0 c ∗ Pipeline.ΦT pre0 (tbl m) c)
  | n + 1, h => iprop(iprop(owns (c : Thread nD τ) scM0_0 fullShare (scrAt m hO hH c n h) ∗ (∃ r, prngReg c r)) ∗ Pipeline.ΦT pre0 (tbl m) c)

theorem PhiS_zero (hO : Ok m) (hH : Hyps m) (c : Dev nD) (n : ℕ) (h : n ≤ grid0.N) (hz : n = 0) :
    PhiS m hO hH c n h = iprop(Pipeline.ΦA spec0 c ∗ Pipeline.ΦT pre0 (tbl m) c) := by subst hz; rfl

theorem PhiS_succ (hO : Ok m) (hH : Hyps m) (c : Dev nD) (n : ℕ) (h : n < grid0.N) :
    PhiS m hO hH c (n + 1) h = iprop(iprop(owns (c : Thread nD τ) scM0_0 fullShare (scrAt m hO hH c n h) ∗ (∃ r, prngReg c r)) ∗ Pipeline.ΦT pre0 (tbl m) c) := rfl

theorem PhiS_pos (hO : Ok m) (hH : Hyps m) (c : Dev nD) (n : ℕ) (h : n ≤ grid0.N) (hz : n ≠ 0) :
    PhiS m hO hH c n h = iprop(iprop(owns (c : Thread nD τ) scM0_0 fullShare (scrAt m hO hH c (n - 1) (by omega)) ∗ (∃ r, prngReg c r)) ∗ Pipeline.ΦT pre0 (tbl m) c) := by
  cases n with
  | zero => exact absurd rfl hz
  | succ n => rfl

/-- The proof data on core `c`: the arrays as launched; after the body at point `t` each input block as fetched and the
    output block at `outAt`; nothing owed; full shares. -/
def dats (hO : Ok m) (hH : Hyps m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO hH c t
  Φ t := PhiS m hO hH c t.val (Nat.le_of_lt_succ t.isLt)
  q _ := fullShare
  owed _ := 0

theorem A_eq (hO : Ok m) (hH : Hyps m) (c : Dev nD) (w : Fin (cfgM m hO).W) : (dats m hO hH 0 c).A w = V m c (Pipeline.arrRef spec0 w) := by
  dsimp only [dats]

theorem PhiS_castSucc (hO : Ok m) (hH : Hyps m) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

theorem after0_0 (hO : Ok m) (hH : Hyps m) (c : Dev nD) (t : Fin (cfgM m hO).N) : (dats m hO hH 0 c).after 0 t = iblk m hO c 0 t := by dsimp only [dats]; try rfl
theorem after0_1 (hO : Ok m) (hH : Hyps m) (c : Dev nD) (t : Fin (cfgM m hO).N) : (dats m hO hH 0 c).after 1 t = iblk m hO c 1 t := by dsimp only [dats]; try rfl
theorem after0_2 (hO : Ok m) (hH : Hyps m) (c : Dev nD) (t : Fin (cfgM m hO).N) : (dats m hO hH 0 c).after 2 t = iblk m hO c 2 t := by dsimp only [dats]; try rfl
theorem after0_3 (hO : Ok m) (hH : Hyps m) (c : Dev nD) (t : Fin (cfgM m hO).N) : (dats m hO hH 0 c).after 3 t = iblk m hO c 3 t := by dsimp only [dats]; try rfl
theorem after0_4 (hO : Ok m) (hH : Hyps m) (c : Dev nD) (t : Fin (cfgM m hO).N) : (dats m hO hH 0 c).after 4 t = iblk m hO c 4 t := by dsimp only [dats]; try rfl
theorem after0_5 (hO : Ok m) (hH : Hyps m) (c : Dev nD) (t : Fin (cfgM m hO).N) : (dats m hO hH 0 c).after 5 t = outAt m hO hH c t := by dsimp only [dats]; try rfl

theorem before0_0 (hO : Ok m) (hH : Hyps m) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body at any point -/

/-- What the body is called with at point `t`. -/
def bodyPre (hO : Ok m) (hH : Hyps m) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d)))

/-- What it returns. -/
def bodyPost (hO : Ok m) (hH : Hyps m) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t)

set_option maxHeartbeats 4800000 in
/-- The body at any point: its case decided by the point's place in its row of the grid, the case's run applied to the
    fetched blocks and the carried scratch. -/
theorem sound_body (hO : Ok m) (hH : Hyps m) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  rw [show (dats m hO hH 0 c).leavesExact 0 t = owns (c : Thread nD τ) (ms0_0 m hO t) fullShare ((dats m hO hH 0 c).after 0 t) from by
    unfold Dat.leavesExact; rw [liveAt0_0 m hO t]; try rfl, after0_0]
  rw [show (dats m hO hH 0 c).leavesExact 1 t = owns (c : Thread nD τ) (ms0_1 m hO t) fullShare ((dats m hO hH 0 c).after 1 t) from by
    unfold Dat.leavesExact; rw [liveAt0_1 m hO t]; try rfl, after0_1]
  rw [show (dats m hO hH 0 c).leavesExact 2 t = owns (c : Thread nD τ) (ms0_2 m hO t) fullShare ((dats m hO hH 0 c).after 2 t) from by
    unfold Dat.leavesExact; rw [liveAt0_2 m hO t]; try rfl, after0_2]
  rw [show (dats m hO hH 0 c).leavesExact 3 t = owns (c : Thread nD τ) (ms0_3 m hO t) fullShare ((dats m hO hH 0 c).after 3 t) from by
    unfold Dat.leavesExact; rw [liveAt0_3 m hO t]; try rfl, after0_3]
  rw [show (dats m hO hH 0 c).leavesExact 4 t = owns (c : Thread nD τ) (ms0_4 m hO t) fullShare ((dats m hO hH 0 c).after 4 t) from by
    unfold Dat.leavesExact; rw [liveAt0_4 m hO t]; try rfl, after0_4]
  by_cases h0 : t.val % 8 = 0
  · have h1 : ¬t.val % 8 = 7 := by omega
    have hc0 := (hcond0_0 t).mpr h0
    have hc1 : ¬cond0_1 (grid0.coords t) := fun h => h1 ((hcond0_1 t).mp h)
    rw [Dat.leavesExact_idle (dats m hO hH 0 c) 5 t (idleAt0_5_A m hO t hc0 hc1) (noFlush0_5_A m hO t hc0 hc1), scrAt_first m hO hH c t h0, PhiS_castSucc m hO hH c t]
    by_cases hz : t.val = 0
    · rw [PhiS_zero m hO hH c _ _ hz, PhiT0_eq, PhiA0_eq]
      iintro ⟨⟨⟨HS, Hg⟩, HT⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ hc0 hc1 (iblk m hO c 0 t) (iblk m hO c 1 t) (iblk m hO c 2 t) (iblk m hO c 3 t) (iblk m hO c 4 t) (tbl m 0) (hH t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HT]; · iexact HT
      iintro ⟨H0, H1, H2, H3, H4, H5, HS, HT⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      iexists _; iexact H5

    · rw [PhiS_pos m hO hH c _ _ hz, PhiT0_eq]
      iintro ⟨⟨⟨HS, Hg⟩, HT⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ hc0 hc1 (iblk m hO c 0 t) (iblk m hO c 1 t) (iblk m hO c 2 t) (iblk m hO c 3 t) (iblk m hO c 4 t) (tbl m 0) (hH t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      isplitl [HT]; · iexact HT
      iintro ⟨H0, H1, H2, H3, H4, H5, HS, HT⟩
      isplitl [HS Hg HT]
      · isplitl [HS Hg]
        · isplitl [HS]; · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      iexists _; iexact H5

  have hc0 : ¬cond0_0 (grid0.coords t) := fun h => h0 ((hcond0_0 t).mp h)
  have hz : t.val ≠ 0 := fun h => h0 (by rw [h])
  rw [scrAt_later m hO hH c t h0, PhiS_castSucc m hO hH c t, PhiS_pos m hO hH c _ _ hz, PhiT0_eq]
  by_cases h1 : t.val % 8 = 7
  · have hc1 := (hcond0_1 t).mpr h1
    rw [show (dats m hO hH 0 c).leavesExact 5 t = owns (c : Thread nD τ) (ms0_5 m hO t) fullShare ((dats m hO hH 0 c).after 5 t) from by
      unfold Dat.leavesExact; rw [liveAt0_5_C m hO t hc0 hc1]; try rfl, after0_5]
    rw [show outAt m hO hH c t = ffn (iblk m hO c 2 t) (iblk m hO c 3 t) (iblk m hO c 4 t) (scrAt m hO hH c t.val t.isLt) from rfl, scrAt_later m hO hH c t h0]
    iintro ⟨⟨⟨HS, Hg⟩, HT⟩, Ho, ⟨%d0, H0⟩, ⟨%d1, H1⟩, ⟨%d2, H2⟩, ⟨%d3, H3⟩, ⟨%d4, H4⟩, ⟨%d5, H5⟩⟩
    iapply (runC c (grid0.coords t) _ _ _ _ _ _ _ _ _ _ _ _ _ _ hc0 hc1 (iblk m hO c 0 t) (iblk m hO c 1 t) (iblk m hO c 2 t) (iblk m hO c 3 t) (iblk m hO c 4 t) (tbl m 0) (hH t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    isplitl [HT]; · iexact HT
    iintro ⟨H0, H1, H2, H3, H4, H5, HS, HT⟩
    isplitl [HS Hg HT]
    · isplitl [HS Hg]
      · isplitl [HS]; · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    iexact H5

  · have hc1 : ¬cond0_1 (grid0.coords t) := fun h => h1 ((hcond0_1 t).mp h)
    rw [Dat.leavesExact_idle (dats m hO hH 0 c) 5 t (idleAt0_5_B m hO t hc0 hc1) (noFlush0_5_B m hO t hc0 hc1)]
    iintro ⟨⟨⟨HS, Hg⟩, HT⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ hc0 hc1 (iblk m hO c 0 t) (iblk m hO c 1 t) (iblk m hO c 2 t) (iblk m hO c 3 t) (iblk m hO c 4 t) (tbl m 0) (hH t) _ _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HT]; · iexact HT
    iintro ⟨H0, H1, H2, H3, H4, H5, HS, HT⟩
    isplitl [HS Hg HT]
    · isplitl [HS Hg]
      · isplitl [HS]; · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    iexists _; iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨HS0, Hg⟩, -⟩
  isplitl [HS0]
  · iexists _; iexact HS0
  iexact Hg

/-- The same after the last point. -/
theorem hout (hO : Ok m) (hH : Hyps m) (c : Dev nD) : (dats m hO hH 0 c).Φ (Fin.last (cfgM m hO).N) ⊢ Pipeline.ΦA spec0 c :=
  Phi_out m hO hH c _ (by rw [Fin.val_last]; have : (cfgM m hO).N = 256 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := hin m hO hH) (hout := hout m hO hH)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hH) (A_eq m hO hH) (run_main m ρ hO hH)

/-- THE FRAME, at any values: the argument arrays end unchanged and every semaphore counter at zero, for every contents of the
    table that meets the side conditions. -/
theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.KernelIdeal.Expert

end
-- ==== Proof.Ideal.Words.lean ====
/- The window position a block start gives: the start rounded down to a multiple of 16, which keeps the window of 272 rows
   inside the scratch; and what the precondition then says of the launch. -/
module

public import proofs.«01_k».proof.Proof.Ideal.Frame
public import proofs.«01_k».proof.Proof.Slots

@[expose] public section

set_option maxRecDepth 16384

noncomputable section

namespace Cert.KernelIdeal.Expert

open Cert.KernelIdeal.Gen
open Idealize.ShloMosaic Idealize.ShloMosaic.TcCoe Idealize.ShloMosaic.Tactic
open Idealize.SL Idealize.SL.Sem

variable {F : FTy → Type} [FloatOps F]

/-- At each possible block start, the rounding gives the multiple of 16 at or below it. -/
theorem mult_word : ∀ n : Fin 2049, (k0_mult1 (BitVec.ofNat 32 n.val)).toNat = 16 * (n.val / 16) := by decide +kernel

theorem mult_of_le (w : BitVec 32) (h : w.toNat ≤ 2048) : (k0_mult1 w).toNat = 16 * (w.toNat / 16) := by
  have e := mult_word ⟨w.toNat, by omega⟩
  rwa [show BitVec.ofNat 32 w.toNat = w from BitVec.eq_of_toNat_eq (by simp)] at e

/-- The window's place in the scratch. -/
theorem off_of_le (w : BitVec 32) (h : w.toNat ≤ 2048) : k0_off2 w = ![16 * (w.toNat / 16), 0] := by
  rw [← mult_of_le w h]; rfl

/-- The window is aligned and inside the scratch. -/
theorem chk_of_le (w : BitVec 32) (h : w.toNat ≤ 2048) : k0_chk1 w := by
  refine ⟨⟨w.toNat / 16, mult_of_le w h⟩, fun a => ?_⟩
  rw [off_of_le w h]
  match a with
  | ⟨0, _⟩ => show 16 * (w.toNat / 16) + 272 ≤ 2320; omega
  | ⟨1, _⟩ => show 0 + 1024 ≤ 1024; omega

variable (m : (ℓ : Loc nD τ sig) → Buf (Elt F) ℓ)

/-- The precondition at the launch's memory. -/
abbrev PreAt : Prop := ∀ c : Dev nD, Cert.Pre_slots_ok.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (m ((c.tc : Thread nD τ).loc main_arg5)) = fun _ => 1#1

/-- The table holds the block starts. -/
theorem tbl_eq : tbl m 0 = m (((0 : Dev nD).tc : Thread nD τ).loc main_arg2) := V_main_arg2 m 0

theorem tbl_le (h : PreAt m) (k : S2048.Idx) : ((tbl m 0 : S2048.Idx → BitVec 32) k).toNat ≤ 2048 := by
  rw [tbl_eq m]; exact Cert.Pre_slots_ok.Expert.start_le (h 0) k

/-- No index map reads the table, so its contents are admissible. -/
theorem ok_any : Ok m := trivial

/-- Every grid point's windows are inside the scratch. -/
theorem hyps_of_pre (h : PreAt m) : Hyps m := fun t q => chk_of_le _ (tbl_le m h _)

end Cert.KernelIdeal.Expert

end
-- ==== Proof.Ideal.Math.lean ====
/- The expert call's plain functions over the extended reals: one gather adds, to every row of the scratch, the tokens whose
   slot number is the row; the feed-forward is the gated network of the gathered rows. -/
module

public import proofs.«01_k».proof.Proof.Ideal.Words
public import Idealize.ShloMosaic.Lib.Pointwise

@[expose] public section

set_option maxRecDepth 16384

noncomputable section

namespace Cert.KernelIdeal.Expert

open Cert.KernelIdeal.Gen
open Idealize.ShloMosaic

/-- 1 where slot number `p` is row `k`, 0 elsewhere. -/
def sel (p : BitVec 32) (k : ℕ) : EReal := if p = BitVec.ofNat 32 k then 1 else 0

/-- Row `k` of the scratch is row `r` of the window at `b` exactly when the slot number less `b` is `r`. -/
theorem sub_eq_iff (p w : BitVec 32) (b r : ℕ) (hb : w.toNat = b) : p - w = BitVec.ofNat 32 r ↔ p = BitVec.ofNat 32 (b + r) := by
  subst hb
  rw [BitVec.ofNat_add, BitVec.ofNat_toNat, BitVec.setWidth_eq]
  constructor
  · intro h; rw [← h, BitVec.add_comm, BitVec.sub_add_cancel]
  · rintro rfl; rw [BitVec.add_comm, BitVec.add_sub_cancel]

/-- The selection matrix compares the slot numbers, less the window's place, with the window's rows. -/
theorem pay14_eq (p : Vec Ideal S1x1x1x256 .i32) (w : BitVec 32) :
    k0_pay14 (F := Ideal) p w = cmpi .eq (broadcastTo S272x256 (subi (shapeCast S1x256 p shapeCasts_S1x1x1x256_S1x256) (broadcast S1x256 (k0_mult1 w))) broadcasts_S1x256_S272x256)
      (iota .tc S272x256 32 [0] iota_S272x256_d0_w32) := rfl

theorem pay14_apply (p : Vec Ideal S1x1x1x256 .i32) (w : BitVec 32) (r : Fin 272) (s : Fin 256) :
    k0_pay14 (F := Ideal) p w (ix2 r s) = IntOp.cmpi .eq (p (ix4 0 0 0 s) - k0_mult1 w) (BitVec.ofNat 32 r.val) := by
  rw [pay14_eq]
  generalize k0_mult1 w = v
  pointwise
  rfl

theorem pay15_apply (c : IVec S272x256 1) (x : Vec Ideal S272x1024 .f32) (y : Vec Ideal S1x256x1024 .bf16) (r : Fin 272) (d : Fin 1024) :
    k0_pay15 (F := Ideal) c x y (ix2 r d) = x (ix2 r d) + ∑ s : Fin 256, Scalar.select (c (ix2 r s)) (1 : EReal) 0 * y (ix3 0 s d) := by
  pointwise [k0_pay15]

/-- A decided bit chooses between 1 and 0 as `sel` does. -/
theorem select_cmpi (p w : BitVec 32) (b r : ℕ) (hb : w.toNat = b) :
    Scalar.select (IntOp.cmpi .eq (p - w) (BitVec.ofNat 32 r)) (1 : EReal) 0 = sel p (b + r) := by
  unfold sel
  by_cases h : p - w = BitVec.ofNat 32 r
  · rw [if_pos ((sub_eq_iff p w b r hb).1 h), IntOp.cmpi_eq.2 h]; rfl
  · rw [if_neg fun e => h ((sub_eq_iff p w b r hb).2 e), ValueIdx.eq_zero_of_ne_one fun e => h (IntOp.cmpi_eq.1 e)]; rfl

/-- A slot number that is negative or in its block's window names no row outside the window. -/
theorem sel_outside (p w : BitVec 32) (k : ℕ) (hw : w.toNat ≤ 2048) (hk : k < 2320) (hp : p.toInt < 0 ∨ (w.toNat ≤ p.toNat ∧ p.toNat < w.toNat + 256))
    (ho : ¬(16 * (w.toNat / 16) ≤ k ∧ k < 16 * (w.toNat / 16) + 272)) : sel p k = 0 := by
  refine if_neg ?_
  rintro rfl
  have hk' : (BitVec.ofNat 32 k).toNat = k := by rw [BitVec.toNat_ofNat]; omega
  rcases hp with hp | hp
  · rw [BitVec.toInt_eq_toNat_of_lt (by omega)] at hp; omega
  · rw [hk'] at hp; omega

/-- A window of rows at block start `w` that gains the selected tokens, read at an element of the scratch: the row gains the
    tokens whose slot number it is. -/
theorem put_apply (w : BitVec 32) (hw : w.toNat ≤ 2048) (hinb : ∀ a, k0_off2 w a + S272x1024.size a ≤ S2320x1024.size a) (p : Vec Ideal S1x1x1x256 .i32)
    (hp : ∀ s : Fin 256, (p (ix4 0 0 0 s)).toInt < 0 ∨ (w.toNat ≤ (p (ix4 0 0 0 s)).toNat ∧ (p (ix4 0 0 0 s)).toNat < w.toNat + 256))
    (y : Vec Ideal S1x256x1024 .bf16) (x : Vec Ideal S2320x1024 .f32) (k : Fin 2320) (d : Fin 1024) :
    VecWindow.put x (k0_off2 w) S272x1024.size (k0_pay15 (F := Ideal) (k0_pay14 (F := Ideal) p w) (VecWindow.window x (k0_off2 w) S272x1024.size hinb) y) (ix2 k d)
      = x (ix2 k d) + ∑ s : Fin 256, sel (p (ix4 0 0 0 s)) k.val * y (ix3 0 s d) := by
  have ho : k0_off2 w = ![16 * (w.toNat / 16), 0] := off_of_le w hw
  by_cases hk : 16 * (w.toNat / 16) ≤ k.val ∧ k.val < 16 * (w.toNat / 16) + 272
  · have hmem : ∀ a, k0_off2 w a ≤ ((ix2 k d : S2320x1024.Idx) a).val ∧ ((ix2 k d : S2320x1024.Idx) a).val < k0_off2 w a + S272x1024.size a := fun a => by
      rw [ho]
      match a with
      | ⟨0, _⟩ => exact hk
      | ⟨1, _⟩ => exact ⟨Nat.zero_le _, by show d.val < 0 + 1024; omega⟩
    have hl : Rect.unitLocal (s := S2320x1024) (off := k0_off2 w) (size := S272x1024.size) (ix2 k d) hmem = ix2 (⟨k.val - 16 * (w.toNat / 16), by omega⟩ : Fin 272) d := by
      funext a
      refine Fin.ext ?_
      match a with
      | ⟨0, _⟩ => show k.val - k0_off2 w 0 = _; rw [ho]; rfl
      | ⟨1, _⟩ => show d.val - k0_off2 w 1 = _; rw [ho]; rfl
    have he : (Rect.unit (s := S2320x1024) (k0_off2 w) S272x1024.size hinb).emb (ix2 (⟨k.val - 16 * (w.toNat / 16), by omega⟩ : Fin 272) d) = (ix2 k d : S2320x1024.Idx) := by
      funext a
      refine Fin.ext ?_
      match a with
      | ⟨0, _⟩ => show k0_off2 w 0 + 1 * (k.val - 16 * (w.toNat / 16)) = k.val; rw [ho]; show 16 * (w.toNat / 16) + 1 * (k.val - 16 * (w.toNat / 16)) = k.val; omega
      | ⟨1, _⟩ => show k0_off2 w 1 + 1 * d.val = d.val; rw [ho]; show 0 + 1 * d.val = d.val; omega
    refine (dif_pos hmem).trans ?_
    rw [hl, pay15_apply]
    congr 1
    · exact congrArg x he
    · refine Finset.sum_congr rfl fun s _ => ?_
      rw [pay14_apply, select_cmpi _ _ _ _ (mult_of_le w hw), Nat.add_sub_cancel' hk.1]
  · have hmem : ¬∀ a, k0_off2 w a ≤ ((ix2 k d : S2320x1024.Idx) a).val ∧ ((ix2 k d : S2320x1024.Idx) a).val < k0_off2 w a + S272x1024.size a := fun h => by
      have h0 := h 0
      rw [ho] at h0
      exact hk h0
    refine (dif_neg hmem).trans ?_
    rw [Finset.sum_eq_zero, add_zero]
    intro s _
    rw [sel_outside _ w k.val hw k.isLt (hp s) hk, zero_mul]

/-- What token `s` of gather `q` adds to row `k`, column `d`. -/
def term (x0 : Vec Ideal S1x2048x1024 .bf16) (x1 : Vec Ideal S1x1x1x2048 .i32) (k : ℕ) (d : Fin 1024) (u : Fin 2048) : EReal :=
  sel (x1 (ix4 0 0 0 u)) k * x0 (ix3 0 u d)

/-- The words of a grid point meet the precondition: its block starts are at most 2048, and each block's slot numbers are
    negative or among the 256 from the block's start on. -/
def PointOk (xt : S2048.Idx → BitVec 32) (i : grid0.Coords) (x1 : Vec Ideal S1x1x1x2048 .i32) : Prop :=
  ∀ q : Fin 8, (startAt xt i q).toNat ≤ 2048 ∧ ∀ s : Fin 256, (posPart x1 q (ix4 0 0 0 s)).toInt < 0
    ∨ ((startAt xt i q).toNat ≤ (posPart x1 q (ix4 0 0 0 s)).toNat ∧ (posPart x1 q (ix4 0 0 0 s)).toNat < (startAt xt i q).toNat + 256)

/-- One gather, read at an element. -/
theorem step_apply (xt : S2048.Idx → BitVec 32) (i : grid0.Coords) (hc : ChkAt xt i) (x0 : Vec Ideal S1x2048x1024 .bf16) (x1 : Vec Ideal S1x1x1x2048 .i32)
    (h : PointOk xt i x1) (q : Fin 8) (x : Vec Ideal S2320x1024 .f32) (k : Fin 2320) (d : Fin 1024) :
    step xt i hc x0 x1 q x (ix2 k d) = x (ix2 k d) + ∑ s : Fin 256, term x0 x1 k.val d ⟨256 * q.val + s.val, by omega⟩ :=
  put_apply _ (h q).1 _ _ (h q).2 _ _ k d

/-- The eight gathers of a grid point, read at an element: the row gains the point's tokens whose slot number it is. -/
theorem gather_apply (xt : S2048.Idx → BitVec 32) (i : grid0.Coords) (hc : ChkAt xt i) (x0 : Vec Ideal S1x2048x1024 .bf16) (x1 : Vec Ideal S1x1x1x2048 .i32)
    (h : PointOk xt i x1) (x : Vec Ideal S2320x1024 .f32) (k : Fin 2320) (d : Fin 1024) :
    gather xt i hc x0 x1 x (ix2 k d) = x (ix2 k d) + ∑ u : Fin 2048, term x0 x1 k.val d u := by
  unfold gather
  simp only [step_apply xt i hc x0 x1 h]
  rw [Fin.sum_univ_tiles (N := 2048) 8 256 rfl]
  simp only [Fin.sum_univ_eight, Nat.mul_comm _ 256, add_assoc]

/-- The gated network of one row `g` of 1024 numbers, at output column `d`. -/
def swiglu (wg wu wd : Fin 1024 → Fin 1024 → EReal) (g : Fin 1024 → EReal) (d : Fin 1024) : EReal :=
  ∑ f : Fin 1024, (∑ c : Fin 1024, g c * wg c f) * Ideal.div 1 (1 + Ideal.exp (0 - ∑ c : Fin 1024, g c * wg c f)) * (∑ c : Fin 1024, g c * wu c f) * wd f d

theorem pay3_apply (x : Vec Ideal S512x1024 .f32) (x2 x3 x4 : Vec Ideal S1x1024x1024 .bf16) (r : Fin 512) (d : Fin 1024) :
    k0_pay3 (F := Ideal) x x2 x3 x4 (ix4 0 0 r d)
      = swiglu (fun c f => x2 (ix3 0 c f)) (fun c f => x3 (ix3 0 c f)) (fun c f => x4 (ix3 0 c f)) (fun c => x (ix2 r c)) d := by
  unfold swiglu
  pointwise [k0_pay3]

theorem ffn_apply (x2 x3 x4 : Vec Ideal S1x1024x1024 .bf16) (x : Vec Ideal S2320x1024 .f32) (k : Fin 2320) (d : Fin 1024) :
    ffn x2 x3 x4 x (ix4 0 0 k d) = if k.val < 2048
      then swiglu (fun c f => x2 (ix3 0 c f)) (fun c f => x3 (ix3 0 c f)) (fun c f => x4 (ix3 0 c f)) (fun c => x (ix2 k c)) d else 0 := by
  unfold ffn
  by_cases h : k.val < 2048
  · refine (dif_pos h).trans ((pay3_apply _ _ _ _ _ _).trans ?_)
    rw [if_pos h]
    have e : ∀ c, rowsPart x ⟨k.val / 512, by omega⟩ (ix2 ⟨k.val % 512, Nat.mod_lt _ (by omega)⟩ c) = x (ix2 k c) := fun c => by
      refine congrArg (fun r => x (ix2 r c)) (Fin.ext ?_)
      show 512 * (k.val / 512) + k.val % 512 = k.val
      omega
    exact congrArg (fun g => swiglu _ _ _ g d) (funext e)
  · refine (dif_neg h).trans ?_
    rw [if_neg h]
    pointwise [k0_pay2]

end Cert.KernelIdeal.Expert

end
-- ==== Proof.Ideal.Rows.lean ====
/- The scratch of gathered rows over the extended reals: after the last point of a row of the grid, row `k` is the sum of the
   batch entry's tokens whose slot number is `k`. -/
module

public import proofs.«01_k».proof.Proof.Ideal.Math

@[expose] public section

set_option maxRecDepth 16384

noncomputable section

namespace Cert.KernelIdeal.Expert

open Cert.KernelIdeal.Gen
open Idealize.ShloMosaic Idealize.ShloMosaic.TcCoe Idealize.SL.Sem

variable (m : (ℓ : Loc nD τ sig) → Buf (Elt Ideal) ℓ)

/-! ## The arguments by name -/

/-- The tokens. -/
abbrev hnOf (c : Dev nD) : FVec Ideal S2x16384x1024 .bf16 := m ((c.tc : Thread nD τ).loc main_arg0)
/-- The slot numbers. -/
abbrev posOf (c : Dev nD) : IVec S2x16x1x16384 32 := m ((c.tc : Thread nD τ).loc main_arg1)
/-- The block starts. -/
abbrev startOf (c : Dev nD) : IVec S2048 32 := m ((c.tc : Thread nD τ).loc main_arg2)
/-- The gate weights. -/
abbrev wgOf (c : Dev nD) : FVec Ideal S16x1024x1024 .bf16 := m ((c.tc : Thread nD τ).loc main_arg3)
/-- The up weights. -/
abbrev wuOf (c : Dev nD) : FVec Ideal S16x1024x1024 .bf16 := m ((c.tc : Thread nD τ).loc main_arg4)
/-- The down weights. -/
abbrev wdOf (c : Dev nD) : FVec Ideal S16x1024x1024 .bf16 := m ((c.tc : Thread nD τ).loc main_arg5)

/-! ## The grid's points by their coordinates -/

theorem coords_eq : ∀ t : Fin grid0.N, (grid0.coords t 0).val = t.val / 128 ∧ (grid0.coords t 1).val = t.val / 8 % 16 ∧ (grid0.coords t 2).val = t.val % 8 := by
  decide +kernel

theorem idx_0 : ∀ t : Fin grid0.N, cc0_transform_0 (grid0.coords t) = ![t.val / 128, t.val % 8, 0] := by decide +kernel
theorem idx_1 : ∀ t : Fin grid0.N, cc0_transform_1 (grid0.coords t) = ![t.val / 128, t.val / 8 % 16, 0, t.val % 8] := by decide +kernel
theorem idx_2 : ∀ t : Fin grid0.N, cc0_transform_2 (grid0.coords t) = ![t.val / 8 % 16, 0, 0] := by decide +kernel
theorem idx_3 : ∀ t : Fin grid0.N, cc0_transform_3 (grid0.coords t) = ![t.val / 8 % 16, 0, 0] := by decide +kernel
theorem idx_4 : ∀ t : Fin grid0.N, cc0_transform_4 (grid0.coords t) = ![t.val / 8 % 16, 0, 0] := by decide +kernel
theorem idx_5 : ∀ t : Fin grid0.N, cc0_transform_5 (grid0.coords t) = ![t.val / 128, t.val / 8 % 16, 0, 0] := by decide +kernel

theorem pt_lt (t : Fin grid0.N) : t.val < 256 := lt_of_lt_of_eq t.isLt N_0

/-- The batch entry of a point. -/
def bOf (t : Fin grid0.N) : Fin 2 := ⟨t.val / 128, by have := pt_lt t; omega⟩
/-- The expert of a point. -/
def eOf (t : Fin grid0.N) : Fin 16 := ⟨t.val / 8 % 16, by omega⟩
/-- Token `u` of a point's 2048 tokens. -/
def uOf (t : Fin grid0.N) (u : Fin 2048) : Fin 16384 := ⟨t.val % 8 * 2048 + u.val, by omega⟩

/-! ## The fetched blocks -/

theorem iblk_0 (hO : Ok m) (c : Dev nD) (t : Fin grid0.N) (s : Fin 2048) (d : Fin 1024) :
    (iblk m hO c 0 t : Vec Ideal S1x2048x1024 .bf16) (ix3 0 s d) = hnOf m c (ix3 (bOf t) (uOf t s) d) := by
  refine (View.read_apply (v := (((cfgM m hO).win 0).blk t).view) (V m c (Pipeline.arrRef spec0 0)) _).trans ?_
  show m (c.tc.loc main_arg0) _ = m (c.tc.loc main_arg0) _
  refine congrArg (m (c.tc.loc main_arg0)) (funext fun a => Fin.ext ?_)
  match a with
  | ⟨0, _⟩ => show cc0_transform_0 (grid0.coords t) 0 * 1 + 1 * 0 = t.val / 128; rw [idx_0]; show t.val / 128 * 1 + 1 * 0 = _; omega
  | ⟨1, _⟩ => show cc0_transform_0 (grid0.coords t) 1 * 2048 + 1 * s.val = t.val % 8 * 2048 + s.val; rw [idx_0]; show t.val % 8 * 2048 + 1 * s.val = _; omega
  | ⟨2, _⟩ => show cc0_transform_0 (grid0.coords t) 2 * 1024 + 1 * d.val = d.val; rw [idx_0]; show 0 * 1024 + 1 * d.val = _; omega

theorem iblk_1 (hO : Ok m) (c : Dev nD) (t : Fin grid0.N) (s : Fin 2048) :
    (iblk m hO c 1 t : Vec Ideal S1x1x1x2048 .i32) (ix4 0 0 0 s) = posOf m c (ix4 (bOf t) (eOf t) 0 (uOf t s)) := by
  refine (View.read_apply (v := (((cfgM m hO).win 1).blk t).view) (V m c (Pipeline.arrRef spec0 1)) _).trans ?_
  show m (c.tc.loc main_arg1) _ = m (c.tc.loc main_arg1) _
  refine congrArg (m (c.tc.loc main_arg1)) (funext fun a => Fin.ext ?_)
  match a with
  | ⟨0, _⟩ => show cc0_transform_1 (grid0.coords t) 0 * 1 + 1 * 0 = t.val / 128; rw [idx_1]; show t.val / 128 * 1 + 1 * 0 = _; omega
  | ⟨1, _⟩ => show cc0_transform_1 (grid0.coords t) 1 * 1 + 1 * 0 = t.val / 8 % 16; rw [idx_1]; show t.val / 8 % 16 * 1 + 1 * 0 = _; omega
  | ⟨2, _⟩ => show cc0_transform_1 (grid0.coords t) 2 * 1 + 1 * 0 = 0; rw [idx_1]; rfl
  | ⟨3, _⟩ => show cc0_transform_1 (grid0.coords t) 3 * 2048 + 1 * s.val = t.val % 8 * 2048 + s.val; rw [idx_1]; show t.val % 8 * 2048 + 1 * s.val = _; omega

/-- A weight's block is the expert's matrix. -/
theorem weight_place (t : Fin grid0.N) (c f : Fin 1024) (g : Fin 3 → ℕ) (hg : g = ![t.val / 8 % 16, 0, 0]) (z : S16x1024x1024.Idx)
    (h0 : (z 0).val = g 0 * 1 + 1 * 0) (h1 : (z 1).val = g 1 * 1024 + 1 * c.val) (h2 : (z 2).val = g 2 * 1024 + 1 * f.val) : z = ix3 (eOf t) c f := by
  subst hg
  funext a
  refine Fin.ext ?_
  match a with
  | ⟨0, _⟩ => refine h0.trans ?_; show t.val / 8 % 16 * 1 + 1 * 0 = t.val / 8 % 16; omega
  | ⟨1, _⟩ => refine h1.trans ?_; show 0 * 1024 + 1 * c.val = c.val; omega
  | ⟨2, _⟩ => refine h2.trans ?_; show 0 * 1024 + 1 * f.val = f.val; omega

theorem iblk_2 (hO : Ok m) (c : Dev nD) (t : Fin grid0.N) (x y : Fin 1024) :
    (iblk m hO c 2 t : Vec Ideal S1x1024x1024 .bf16) (ix3 0 x y) = wgOf m c (ix3 (eOf t) x y) := by
  refine (View.read_apply (v := (((cfgM m hO).win 2).blk t).view) (V m c (Pipeline.arrRef spec0 2)) _).trans ?_
  show m (c.tc.loc main_arg3) _ = m (c.tc.loc main_arg3) _
  exact congrArg (m (c.tc.loc main_arg3)) (weight_place t x y _ (idx_2 t) _ rfl rfl rfl)

theorem iblk_3 (hO : Ok m) (c : Dev nD) (t : Fin grid0.N) (x y : Fin 1024) :
    (iblk m hO c 3 t : Vec Ideal S1x1024x1024 .bf16) (ix3 0 x y) = wuOf m c (ix3 (eOf t) x y) := by
  refine (View.read_apply (v := (((cfgM m hO).win 3).blk t).view) (V m c (Pipeline.arrRef spec0 3)) _).trans ?_
  show m (c.tc.loc main_arg4) _ = m (c.tc.loc main_arg4) _
  exact congrArg (m (c.tc.loc main_arg4)) (weight_place t x y _ (idx_3 t) _ rfl rfl rfl)

theorem iblk_4 (hO : Ok m) (c : Dev nD) (t : Fin grid0.N) (x y : Fin 1024) :
    (iblk m hO c 4 t : Vec Ideal S1x1024x1024 .bf16) (ix3 0 x y) = wdOf m c (ix3 (eOf t) x y) := by
  refine (View.read_apply (v := (((cfgM m hO).win 4).blk t).view) (V m c (Pipeline.arrRef spec0 4)) _).trans ?_
  show m (c.tc.loc main_arg5) _ = m (c.tc.loc main_arg5) _
  exact congrArg (m (c.tc.loc main_arg5)) (weight_place t x y _ (idx_4 t) _ rfl rfl rfl)

/-! ## The words of a point -/

/-- Gather `q` of point `t` reads the block start of its 256 tokens. -/
theorem startAt_eq (t : Fin grid0.N) (q : Fin 8) (s : Fin 256) (c : Dev nD) :
    startAt (tbl m 0) (grid0.coords t) q
      = startOf m c (ix1 (Cert.Pre_slots_ok.Expert.blockOf (bOf t) (eOf t) (uOf t ⟨256 * q.val + s.val, by omega⟩))) := by
  obtain rfl : c = 0 := Subsingleton.elim _ _
  rw [tbl_eq m]
  obtain ⟨h0, h1, h2⟩ := coords_eq t
  have ht := pt_lt t
  refine congrArg (startOf m 0) (funext fun a => Fin.ext ?_)
  match a with
  | ⟨0, _⟩ =>
    show (((grid0.coords t 0).val * 16 + (grid0.coords t 1).val) * 8 + (grid0.coords t 2).val) * 8 + q.val
      = (t.val / 128 * 16 + t.val / 8 % 16) * 64 + (t.val % 8 * 2048 + (256 * q.val + s.val)) / 256
    rw [h0, h1, h2]
    omega

/-- The slot numbers gather `q` of point `t` reads. -/
theorem posPart_eq (hO : Ok m) (c : Dev nD) (t : Fin grid0.N) (q : Fin 8) (s : Fin 256) :
    posPart (F := Ideal) (iblk m hO c 1 t) q (ix4 0 0 0 s) = posOf m c (ix4 (bOf t) (eOf t) 0 (uOf t ⟨256 * q.val + s.val, by omega⟩)) :=
  iblk_1 m hO c t ⟨256 * q.val + s.val, by omega⟩

theorem pointOk (hO : Ok m) (h : PreAt m) (c : Dev nD) (t : Fin grid0.N) : PointOk (tbl m 0) (grid0.coords t) (iblk m hO c 1 t) := fun q =>
  ⟨tbl_le m h _, fun s => by
    rw [posPart_eq, startAt_eq m t q s c]
    exact Cert.Pre_slots_ok.Expert.pos_in (h c) _ _ _⟩

/-! ## The gathered rows -/

/-- What token `n` of batch entry `b` adds to row `k` of expert `e`, at column `d`. -/
def tok (c : Dev nD) (b : Fin 2) (e : Fin 16) (k : ℕ) (d : Fin 1024) (u : Fin 16384) : EReal :=
  sel (posOf m c (ix4 b e 0 u)) k * hnOf m c (ix3 b u d)

/-- What part `j` of the batch entry's tokens, 2048 of them, adds. -/
def part (c : Dev nD) (b : Fin 2) (e : Fin 16) (k : ℕ) (d : Fin 1024) (j : ℕ) : EReal :=
  ∑ u : Fin 2048, tok m c b e k d ⟨j % 8 * 2048 + u.val, by omega⟩

/-- Row `k` of expert `e`'s gathered tokens in batch entry `b`, at column `d`. -/
def row (c : Dev nD) (b : Fin 2) (e : Fin 16) (k : ℕ) (d : Fin 1024) : EReal := ∑ u : Fin 16384, tok m c b e k d u

theorem row_eq (c : Dev nD) (b : Fin 2) (e : Fin 16) (k : ℕ) (d : Fin 1024) : ∑ j ∈ Finset.range 8, part m c b e k d j = row m c b e k d := by
  unfold row
  rw [Fin.sum_univ_tiles (N := 16384) 8 2048 rfl, Finset.sum_range]
  refine Finset.sum_congr rfl fun j _ => Finset.sum_congr rfl fun u _ => congrArg (tok m c b e k d) (Fin.ext ?_)
  show j.val % 8 * 2048 + u.val = j.val * 2048 + u.val
  rw [Nat.mod_eq_of_lt j.isLt]

/-- One point's gathers add the point's part. -/
theorem gather_part (hO : Ok m) (h : PreAt m) (c : Dev nD) (t : Fin grid0.N) (hc : ChkAt (tbl m 0) (grid0.coords t)) (x : Vec Ideal S2320x1024 .f32) (k : Fin 2320) (d : Fin 1024) :
    gather (tbl m 0) (grid0.coords t) hc (iblk m hO c 0 t) (iblk m hO c 1 t) x (ix2 k d) = x (ix2 k d) + part m c (bOf t) (eOf t) k.val d t.val := by
  refine (gather_apply _ _ _ _ _ (pointOk m hO h c t) _ _ _).trans ?_
  refine congrArg (x (ix2 k d) + ·) (Finset.sum_congr rfl fun u _ => ?_)
  exact congr (congrArg (fun a b : EReal => a * b) (congrArg (fun p => sel p k.val) (iblk_1 m hO c t u))) (iblk_0 m hO c t u d)

/-- The zero rows a row of the grid starts from. -/
theorem pay13_apply (k : Fin 2320) (d : Fin 1024) : k0_pay13 (F := Ideal) (ix2 k d) = (0 : EReal) := by
  pointwise [k0_pay13]

/-- After point `n` the scratch holds the parts of its row of the grid up to the point. -/
theorem scrAt_apply (hO : Ok m) (hH : Hyps m) (h : PreAt m) (c : Dev nD) (k : Fin 2320) (d : Fin 1024) : ∀ (n : ℕ) (hn : n < grid0.N),
    scrAt m hO hH c n hn (ix2 k d) = ∑ j ∈ Finset.range (n % 8 + 1), part m c (bOf ⟨n, hn⟩) (eOf ⟨n, hn⟩) k.val d j := by
  intro n
  induction n with
  | zero =>
    intro hn
    refine (congrFun (scrAt_first m hO hH c ⟨0, hn⟩ rfl) _).trans ?_
    rw [gather_part m hO h, pay13_apply, zero_add]
    exact (Finset.sum_range_one _).symm
  | succ n ih =>
    intro hn
    have hN : n + 1 < 256 := lt_of_lt_of_eq hn N_0
    by_cases h0 : (n + 1) % 8 = 0
    · refine (congrFun (scrAt_first m hO hH c ⟨n + 1, hn⟩ h0) _).trans ?_
      rw [gather_part m hO h, pay13_apply, zero_add, h0, Finset.sum_range_one]
      unfold part
      simp only [h0]
    · refine (congrFun (scrAt_later m hO hH c ⟨n + 1, hn⟩ h0) _).trans ?_
      rw [gather_part m hO h]
      have hb : bOf ⟨n, Nat.lt_of_succ_lt hn⟩ = bOf ⟨n + 1, hn⟩ := Fin.ext (show n / 128 = (n + 1) / 128 by omega)
      have he : eOf ⟨n, Nat.lt_of_succ_lt hn⟩ = eOf ⟨n + 1, hn⟩ := Fin.ext (show n / 8 % 16 = (n + 1) / 8 % 16 by omega)
      have hm : (n + 1) % 8 = n % 8 + 1 := by omega
      have hi := ih (Nat.lt_of_succ_lt hn)
      rw [hb, he] at hi
      have hp : part m c (bOf ⟨n + 1, hn⟩) (eOf ⟨n + 1, hn⟩) k.val d (n + 1) = part m c (bOf ⟨n + 1, hn⟩) (eOf ⟨n + 1, hn⟩) k.val d ((n + 1) % 8) := by
        unfold part
        simp only [Nat.mod_mod]
      rw [hp, Finset.sum_range_succ, hm]
      exact congrArg (· + _) hi

/-- After the last point of a row of the grid it holds the gathered rows. -/
theorem scrAt_last (hO : Ok m) (hH : Hyps m) (h : PreAt m) (c : Dev nD) (t : Fin grid0.N) (ht : t.val % 8 = 7) (k : Fin 2320) (d : Fin 1024) :
    scrAt m hO hH c t.val t.isLt (ix2 k d) = row m c (bOf t) (eOf t) k.val d := by
  rw [scrAt_apply m hO hH h, ht]
  exact row_eq m c _ _ _ _

end Cert.KernelIdeal.Expert

end
-- ==== Proof.Ideal.Result.lean ====
/- The kernel's result over the extended reals: each grid row's flushed block is the network's rows, so the array ends holding
   them at every batch entry and expert. -/
module

public import proofs.«01_k».proof.Proof.Ideal.Rows

@[expose] public section

set_option maxRecDepth 16384

noncomputable section

namespace Cert.KernelIdeal.Expert

open Cert.KernelIdeal.Gen
open Idealize.ShloMosaic Idealize.ShloMosaic.TcCoe Idealize.SL.Sem

variable (m : (ℓ : Loc nD τ sig) → Buf (Elt Ideal) ℓ) (ρ : Dev nD → PrngReg)

/-- The result at batch entry `b`, expert `e`, row `k`, column `d`: the network applied to the gathered row, zero past the
    capacity. -/
def cell (c : Dev nD) (b : Fin 2) (e : Fin 16) (k : Fin 2320) (d : Fin 1024) : EReal :=
  if k.val < 2048 then swiglu (fun x y => wgOf m c (ix3 e x y)) (fun x y => wuOf m c (ix3 e x y)) (fun x y => wdOf m c (ix3 e x y)) (fun x => row m c b e k.val x) d else 0

/-- The result array. -/
def result (c : Dev nD) : Buf (Elt Ideal) ((c.tc : Thread nD τ).loc main_v0) := fun i : S2x16x2320x1024.Idx => cell m c (i 0) (i 1) (i 2) (i 3)

/-- What the last point of a row of the grid flushes. -/
theorem outAt_apply (hO : Ok m) (hH : Hyps m) (h : PreAt m) (c : Dev nD) (t : Fin grid0.N) (ht : t.val % 8 = 7) (k : Fin 2320) (d : Fin 1024) :
    outAt m hO hH c t (ix4 0 0 k d) = cell m c (bOf t) (eOf t) k d := by
  unfold outAt cell
  refine (ffn_apply _ _ _ _ _ _).trans ?_
  by_cases hk : k.val < 2048
  · rw [if_pos hk, if_pos hk]
    have e2 : (fun x y => (iblk m hO c 2 t : Vec Ideal S1x1024x1024 .bf16) (ix3 0 x y)) = fun x y => wgOf m c (ix3 (eOf t) x y) := funext fun x => funext fun y => iblk_2 m hO c t x y
    have e3 : (fun x y => (iblk m hO c 3 t : Vec Ideal S1x1024x1024 .bf16) (ix3 0 x y)) = fun x y => wuOf m c (ix3 (eOf t) x y) := funext fun x => funext fun y => iblk_3 m hO c t x y
    have e4 : (fun x y => (iblk m hO c 4 t : Vec Ideal S1x1024x1024 .bf16) (ix3 0 x y)) = fun x y => wdOf m c (ix3 (eOf t) x y) := funext fun x => funext fun y => iblk_4 m hO c t x y
    have es : (fun x => scrAt m hO hH c t.val t.isLt (ix2 k x)) = fun x => row m c (bOf t) (eOf t) k.val x := funext fun x => scrAt_last m hO hH h c t ht k x
    exact congrFun (congr (congr (congr (congrArg swiglu e2) e3) e4) es) d
  · rw [if_neg hk, if_neg hk]

/-- Each write-back writes its block of the result. -/
theorem flushed_eq (hO : Ok m) (hH : Hyps m) (h : PreAt m) (c : Dev nD) (t : Fin grid0.N) (hf : ((cfgM m hO).win 5).flush t = true) :
    (dats m hO hH 0 c).flushed 5 t = (((cfgM m hO).win 5).blk t).view.read (Elt Ideal) (result m c) := by
  have ht : t.val % 8 = 7 := (flush0_5 (adm m hO) t).mp hf
  show ((cfgM m hO).win 5).cut (grid0.coords t) ((dats m hO hH 0 c).after 5 t) = _
  rw [after0_5]
  funext (y : S1x1x2320x1024.Idx)
  refine Eq.trans ?_ (View.read_apply (v := (((cfgM m hO).win 5).blk t).view) (result m c) y).symm
  have hx : ∀ x : S1x1x2320x1024.Idx, outAt m hO hH c t x = cell m c (bOf t) (eOf t) (x 2) (x 3) := fun x =>
    (congrArg (outAt m hO hH c t) (show x = ix4 0 0 (x 2) (x 3) from funext fun a => by
      match a with
      | ⟨0, _⟩ => exact Fin.eq_zero (x 0)
      | ⟨1, _⟩ => exact Fin.eq_zero (x 1)
      | ⟨2, _⟩ => rfl
      | ⟨3, _⟩ => rfl)).trans (outAt_apply m hO hH h c t ht _ _)
  refine (hx y).trans ?_
  show cell m c (bOf t) (eOf t) (y 2) (y 3) = result m c ((((cfgM m hO).win 5).blk t).view.emb y)
  refine congr (congr (congr (congrArg (cell m c) (Fin.ext ?_)) (Fin.ext ?_)) (Fin.ext ?_)) (Fin.ext ?_)
  · show t.val / 128 = cc0_transform_5 (grid0.coords t) 0 * 1 + 1 * (y 0).val
    have := congrFun (idx_5 t) 0
    have h0 : (y 0).val < 1 := (y 0).isLt
    rw [this]; show t.val / 128 = t.val / 128 * 1 + 1 * (y 0).val; omega
  · show t.val / 8 % 16 = cc0_transform_5 (grid0.coords t) 1 * 1 + 1 * (y 1).val
    have := congrFun (idx_5 t) 1
    have h0 : (y 1).val < 1 := (y 1).isLt
    rw [this]; show t.val / 8 % 16 = t.val / 8 % 16 * 1 + 1 * (y 1).val; omega
  · show (y 2).val = cc0_transform_5 (grid0.coords t) 2 * 2320 + 1 * (y 2).val
    have := congrFun (idx_5 t) 2
    rw [this]; show (y 2).val = 0 * 2320 + 1 * (y 2).val; omega
  · show (y 3).val = cc0_transform_5 (grid0.coords t) 3 * 1024 + 1 * (y 3).val
    have := congrFun (idx_5 t) 3
    rw [this]; show (y 3).val = 0 * 1024 + 1 * (y 3).val; omega

/-- The point whose write-back covers batch entry `b`, expert `e`. -/
def lastOf (b : Fin 2) (e : Fin 16) : Fin grid0.N := ⟨(b.val * 16 + e.val) * 8 + 7, lt_of_lt_of_eq (by omega) N_0.symm⟩

/-- A point's block is its batch entry and expert. -/
theorem mem_blk (hO : Ok m) (t : Fin grid0.N) (i : S2x16x2320x1024.Idx) (h0 : (i 0).val = t.val / 128) (h1 : (i 1).val = t.val / 8 % 16) :
    i ∈ (((cfgM m hO).win 5).blk t).view.set := by
  have h2 : (i 2).val < 2320 := (i 2).isLt
  have h3 : (i 3).val < 1024 := (i 3).isLt
  have hi := idx_5 t
  refine (Eq.mpr (congrArg (i ∈ ·) (View.set_slice_whole (b := main_v0) (((cfgM m hO).win 5).rect t))) ?_)
  refine Rect.mem_set_unit.mpr ?_
  intro a
  match a with
  | ⟨0, _⟩ =>
    show cc0_transform_5 (grid0.coords t) 0 * 1 ≤ (i 0).val ∧ (i 0).val < cc0_transform_5 (grid0.coords t) 0 * 1 + 1
    rw [hi]; show t.val / 128 * 1 ≤ (i 0).val ∧ (i 0).val < t.val / 128 * 1 + 1; omega
  | ⟨1, _⟩ =>
    show cc0_transform_5 (grid0.coords t) 1 * 1 ≤ (i 1).val ∧ (i 1).val < cc0_transform_5 (grid0.coords t) 1 * 1 + 1
    rw [hi]; show t.val / 8 % 16 * 1 ≤ (i 1).val ∧ (i 1).val < t.val / 8 % 16 * 1 + 1; omega
  | ⟨2, _⟩ =>
    show cc0_transform_5 (grid0.coords t) 2 * 2320 ≤ (i 2).val ∧ (i 2).val < cc0_transform_5 (grid0.coords t) 2 * 2320 + 2320
    rw [hi]; show 0 * 2320 ≤ (i 2).val ∧ (i 2).val < 0 * 2320 + 2320; omega
  | ⟨3, _⟩ =>
    show cc0_transform_5 (grid0.coords t) 3 * 1024 ≤ (i 3).val ∧ (i 3).val < cc0_transform_5 (grid0.coords t) 3 * 1024 + 1024
    rw [hi]; show 0 * 1024 ≤ (i 3).val ∧ (i 3).val < 0 * 1024 + 1024; omega

/-- So the result array ends holding the result. -/
theorem final (hO : Ok m) (hH : Hyps m) (h : PreAt m) (c : Dev nD) : (dats m hO hH 0 c).arrAt 5 (cfgM m hO).N = result m c :=
  (dats m hO hH 0 c).arrAt_eq_of_cover 5 (result m c) (flushed_eq m hO hH h c) fun (i : S2x16x2320x1024.Idx) =>
    have h0 : (i 0).val < 2 := (i 0).isLt
    have h1 : (i 1).val < 16 := (i 1).isLt
    have hv : (lastOf (i 0) (i 1)).val = ((i 0).val * 16 + (i 1).val) * 8 + 7 := rfl
    ⟨lastOf (i 0) (i 1), (flush0_5 (adm m hO) (lastOf (i 0) (i 1))).mpr (by omega), mem_blk m hO _ i (by omega) (by omega)⟩

/-- The run, read at the result array. -/
theorem run_result (h : PreAt m) : θ_run defs (onTc (τ := τ) (main (F := Ideal))) ⟨m, fun _ => 0, ρ⟩ fun r => ∀ c : Dev nD,
      r.2.mem ((c.tc : Thread nD τ).loc main_v0) = result m c :=
  (θ_run defs _ _).mono (fun _ hr c => ((hr c).1 5).trans (final m (ok_any m) (hyps_of_pre m h) h c)) (run_main m ρ (ok_any m) (hyps_of_pre m h))

/-- The run, read: the result array at the result, the arguments unchanged. -/
theorem run (h : PreAt m) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r hr c => ⟨hr.1 c, hr.2 c⟩) (θ_run_and (run_result m ρ h) (unchanged m ρ (ok_any m) (hyps_of_pre m h)))

end Cert.KernelIdeal.Expert

end
-- ==== Proof.Ideal.Reference.lean ====
/- The reference's result over the extended reals, read at an index: the gated network applied to the sum of the batch entry's
   tokens whose slot number is the row, and zero past the capacity. -/
module

public import proofs.«01_k».proof.Proof.Ideal.Rows
public import proofs.«01_k».proof.Proof.Gen.ReferenceIdeal.Run

@[expose] public section

set_option maxRecDepth 16384

noncomputable section

namespace Cert.ReferenceIdeal.Expert

open Cert.ReferenceIdeal Cert.ReferenceIdeal.Gen
open Idealize.ShloMosaic Idealize.ShloMosaic.TcCoe Idealize.SL.Sem
open Cert.KernelIdeal.Expert (sel swiglu select_cmpi)

variable (hn : FVec Ideal S2x16384x1024 .bf16) (pos : IVec S2x16x1x16384 32) (wg wu wd : FVec Ideal S16x1024x1024 .bf16)

/-- The one-hot table: at row `k`, token `u`, whether the token's slot number is `k`. -/
def hot : FVec Ideal S2x16x2048x16384 .f32 :=
  select (cmpi .eq (broadcastInDim S2x16x2048x16384 ![0, 1, 2, 3] bcast_S2x16x1x16384_S2x16x2048x16384_0_1_2_3 pos) (iotaInDim S2x16x2048x16384 32 2))
    (broadcastInDim S2x16x2048x16384 ![] bcast_S_S2x16x2048x16384 (constant S_ .f32 0x3F800000#32))
    (broadcastInDim S2x16x2048x16384 ![] bcast_S_S2x16x2048x16384 (constant S_ .f32 0x00000000#32))

/-- The gathered tokens. -/
def xe : FVec Ideal S2x16x2048x1024 .f32 :=
  Host.dotGeneral dot_S2x16x2048x16384_S2x16384x1024_S2x16x2048x1024_3_1_12_2_0_0 none (hot pos) (extf .f32 hn bitsLt_bf16_f32)

/-- A layer of the network: rows times an expert's matrix. -/
def lin (w : FVec Ideal S16x1024x1024 .bf16) (x : FVec Ideal S2x16x2048x1024 .f32) : FVec Ideal S2x16x2048x1024 .f32 :=
  transpose S2x16x2048x1024 [2, 0, 3, 1] (Host.dotGeneral dot_S16x1024x1024_S2x16x2048x1024_S16x1024x2x2048_1_3_2_02_0_1 none (extf .f32 w bitsLt_bf16_f32) x) transposes_S16x1024x2x2048_S2x16x2048x1024_2_0_3_1

/-- The gate's weight of a value. -/
def gate (x : FVec Ideal S2x16x2048x1024 .f32) : FVec Ideal S2x16x2048x1024 .f32 :=
  mulf x (Host.divf (broadcastInDim S2x16x2048x1024 ![] bcast_S_S2x16x2048x1024 (constant S_ .f32 0x3F800000#32))
    (addf (broadcastInDim S2x16x2048x1024 ![] bcast_S_S2x16x2048x1024 (constant S_ .f32 0x3F800000#32)) (Host.exp (Host.negf x))))

/-- The network's rows. -/
def rows : FVec Ideal S2x16x2048x1024 .f32 := lin wd (mulf (gate (lin wg (xe hn pos))) (lin wu (xe hn pos)))

/-- The result: the network's rows, then the rows of zeros. -/
def out : FVec Ideal S2x16x2320x1024 .bf16 :=
  truncf .bf16 (concatenate S2x16x2320x1024 2 [⟨S2x16x2048x1024, rows hn pos wg wu wd⟩,
    ⟨S2x16x272x1024, broadcastInDim S2x16x272x1024 ![] bcast_S_S2x16x272x1024 (constant S_ .f32 0x00000000#32)⟩]
    concatenates_S2x16x2048x1024_S2x16x272x1024_S2x16x2320x1024_d2) bitsLt_bf16_f32

theorem hot_apply (b : Fin 2) (e : Fin 16) (k : Fin 2048) (u : Fin 16384) : hot pos (ix4 b e k u) = sel (pos (ix4 b e 0 u)) k.val := by
  pointwise [hot]
  unfold sel
  by_cases h : pos (ix4 b e 0 u) = BitVec.ofNat 32 k.val
  · rw [if_pos h, h]
    show (if (BitVec.ofBool (BitVec.ofNat 32 k.val == BitVec.ofNat 32 k.val)) = 1#1 then (1 : EReal) else 0) = 1
    rw [beq_self_eq_true]
    exact if_pos rfl
  · rw [if_neg h]
    show (if (BitVec.ofBool (pos (ix4 b e 0 u) == BitVec.ofNat 32 k.val)) = 1#1 then (1 : EReal) else 0) = 0
    rw [beq_eq_false_iff_ne.mpr h]
    exact if_neg (by decide)

theorem xe_apply (b : Fin 2) (e : Fin 16) (k : Fin 2048) (d : Fin 1024) :
    xe hn pos (ix4 b e k d) = ∑ u : Fin 16384, sel (pos (ix4 b e 0 u)) k.val * hn (ix3 b u d) := by
  have h : ∀ u, hot pos (ix4 b e k u) = sel (pos (ix4 b e 0 u)) k.val := hot_apply pos b e k
  pointwise [xe]
  exact Finset.sum_congr rfl fun u _ => congrArg (· * _) (h u)

theorem lin_apply (w : FVec Ideal S16x1024x1024 .bf16) (x : FVec Ideal S2x16x2048x1024 .f32) (b : Fin 2) (e : Fin 16) (k : Fin 2048) (d : Fin 1024) :
    lin w x (ix4 b e k d) = ∑ f : Fin 1024, x (ix4 b e k f) * w (ix3 e f d) := by
  pointwise [lin]
  exact Finset.sum_congr rfl fun f _ => mul_comm _ _

theorem gate_apply (x : FVec Ideal S2x16x2048x1024 .f32) (b : Fin 2) (e : Fin 16) (k : Fin 2048) (d : Fin 1024) :
    gate x (ix4 b e k d) = x (ix4 b e k d) * Ideal.div 1 (1 + Ideal.exp (0 - x (ix4 b e k d))) := by
  pointwise [gate]
  rw [zero_sub]

theorem out_apply (b : Fin 2) (e : Fin 16) (k : Fin 2320) (d : Fin 1024) :
    out hn pos wg wu wd (ix4 b e k d) = if h : k.val < 2048 then rows hn pos wg wu wd (ix4 b e ⟨k.val, h⟩ d) else 0 := by
  pointwise [out]

/-- A row of the network's is the gated network of the gathered row. -/
theorem rows_apply (b : Fin 2) (e : Fin 16) (k : Fin 2048) (d : Fin 1024) : rows hn pos wg wu wd (ix4 b e k d)
    = swiglu (fun x y => wg (ix3 e x y)) (fun x y => wu (ix3 e x y)) (fun x y => wd (ix3 e x y)) (fun x => ∑ u : Fin 16384, sel (pos (ix4 b e 0 u)) k.val * hn (ix3 b u x)) d := by
  unfold rows swiglu
  rw [lin_apply]
  refine Finset.sum_congr rfl fun f _ => congrArg (· * _) ?_
  show gate (lin wg (xe hn pos)) (ix4 b e k f) * lin wu (xe hn pos) (ix4 b e k f) = _
  rw [gate_apply, lin_apply, lin_apply]
  simp only [xe_apply]

/-- The run: the result at `out` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = out (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

/-- The frame: the arguments unchanged, and no counter to move. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2, sem_eq_zero_of_no_sems (by decide) r.2⟩) (run m ρ)

end Cert.ReferenceIdeal.Expert

end
-- ==== Proof.Ideal.Agree.lean ====
/- The kernel's result array is the reference's, when their arguments agree. -/
module

public import proofs.«01_k».proof.Proof.Ideal.Result
public import proofs.«01_k».proof.Proof.Ideal.Reference

@[expose] public section

noncomputable section

namespace Cert.KernelIdeal.Expert

open Cert.KernelIdeal.Gen
open Idealize.ShloMosaic Idealize.ShloMosaic.TcCoe Idealize.SL.Sem

variable (m : (ℓ : Loc nD τ sig) → Buf (Elt Ideal) ℓ)

theorem out_eq_result (c : Dev nD) : Cert.ReferenceIdeal.Expert.out (hnOf m c) (posOf m c) (wgOf m c) (wuOf m c) (wdOf m c) = result m c := by
  funext (i : S2x16x2320x1024.Idx)
  have hi : i = ix4 (i 0) (i 1) (i 2) (i 3) := by
    funext a
    match a with
    | ⟨0, _⟩ => rfl
    | ⟨1, _⟩ => rfl
    | ⟨2, _⟩ => rfl
    | ⟨3, _⟩ => rfl
  refine (congrArg (Cert.ReferenceIdeal.Expert.out (hnOf m c) (posOf m c) (wgOf m c) (wuOf m c) (wdOf m c)) hi).trans ?_
  refine (Cert.ReferenceIdeal.Expert.out_apply _ _ _ _ _ _ _ _ _).trans ?_
  show _ = cell m c (i 0) (i 1) (i 2) (i 3)
  unfold cell
  by_cases hk : (i 2).val < 2048
  · rw [if_pos hk]
    exact (dif_pos hk).trans (Cert.ReferenceIdeal.Expert.rows_apply _ _ _ _ _ _ _ _ _)
  · rw [if_neg hk]
    exact dif_neg hk

end Cert.KernelIdeal.Expert

end
-- ==== Proof.Ideal.Stream.lean ====
/- The plain functions of a stream's row over the extended reals: its normalisation, its modulation, and the input projection
   of the modulated row. -/
module

public import Idealize.ShloMosaic.Lib.Pointwise

@[expose] public section

noncomputable section

namespace Cert.Stream

open Idealize.ShloMosaic

/-- A row divided by the root of its mean square (and the small constant), times the gains. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- The normalised row, scaled by one more than the scale and shifted. -/
def modulated (x g shift scale : Fin 1024 → EReal) (d : Fin 1024) : EReal := normed x g d * (1 + scale d) + shift d

/-- Column `k` of the modulated row's projection. -/
def projected (x g shift scale : Fin 1024 → EReal) (w : Fin 1024 → Fin 2304 → EReal) (k : Fin 2304) : EReal :=
  ∑ d, modulated x g shift scale d * w d k

end Cert.Stream

end
-- ==== Proof.Ideal.Norm.lean ====
/- The final norm over the extended reals: the kernel's result and the reference's are the normalised rows of the stream. -/
module

public import proofs.«01_k».proof.Proof.Ideal.Stream
public import proofs.«01_k».proof.Proof.Gen.NormIdeal.Value
public import proofs.«01_k».proof.Proof.Gen.NormReferenceIdeal.Run
public import Idealize.ShloMosaic.Lib.Quiescent

@[expose] public section

set_option maxRecDepth 16384

noncomputable section

namespace Cert.NormIdeal.Final

open Cert.NormIdeal Cert.NormIdeal.Gen Cert.Stream
open Idealize.ShloMosaic Idealize.ShloMosaic.TcCoe Idealize.SL.Sem

variable (m : (ℓ : Loc nD τ sig) → Buf (Elt Ideal) ℓ) (ρ : Dev nD → PrngReg)

/-- The stream and the gains. -/
def stream (c : Dev nD) : S2x16384x1024.Idx → EReal := m ((c.tc : Thread nD τ).loc main_arg0)
def gains (c : Dev nD) : S1024.Idx → EReal := m ((c.tc : Thread nD τ).loc main_arg1)

/-- The result: each row normalised. -/
def result (c : Dev nD) : Buf (Elt Ideal) ((c.tc : Thread nD τ).loc main_v1) := fun i : S2x16384x1024.Idx =>
  normed (fun e => stream m c (ix3 (i 0) (i 1) e)) (fun e => gains m c (ix1 e)) (i 2)

/-- The body's stored block, read at a row and column. -/
theorem pay_apply (x : Vec Ideal S1x256x1024 .f32) (g : Vec Ideal S1x1024 .f32) (r : Fin 256) (d : Fin 1024) :
    k0_pay1 x g (ix3 0 r d) = normed (fun e => x (ix3 0 r e)) (fun e => g (ix2 0 e)) d := by
  pointwise [k0_pay1]
  rfl

/-- The windows' block indices at a point: the batch entry and the block of 256 rows, or the whole gains. -/
theorem idx_0 : ∀ t : Fin grid0.N, cc0_transform_0 (grid0.coords t) = ![t.val / 64, t.val % 64, 0] := by decide +kernel
theorem idx_1 : ∀ t : Fin grid0.N, cc0_transform_1 (grid0.coords t) = ![0, 0] := by decide +kernel
theorem idx_2 : ∀ t : Fin grid0.N, cc0_transform_2 (grid0.coords t) = ![t.val / 64, t.val % 64, 0] := by decide +kernel

/-- A point's batch entry, and a row of its block in the stream. -/
def bOf (t : Fin grid0.N) : Fin 2 := ⟨t.val / 64, by have := lt_of_lt_of_eq t.isLt N_0; omega⟩
def rOf (t : Fin grid0.N) (r : Fin 256) : Fin 16384 := ⟨t.val % 64 * 256 + r.val, by omega⟩

/-- The stream's block at a point. -/
theorem iblk_0 (c : Dev nD) (t : Fin grid0.N) (r : Fin 256) (e : Fin 1024) :
    (iblk m c 0 t : Vec Ideal S1x256x1024 .f32) (ix3 0 r e) = stream m c (ix3 (bOf t) (rOf t r) e) := by
  refine (View.read_apply (v := ((cfg0.win 0).blk t).view) (V m c (Pipeline.arrRef spec0 0)) _).trans ?_
  show V m c main_arg0 _ = _
  refine (congrFun (V_main_arg0 m c) _).trans ?_
  refine congrArg (stream m c) (funext fun a => Fin.ext ?_)
  match a with
  | ⟨0, _⟩ =>
    show cc0_transform_0 (grid0.coords t) 0 * 1 + 1 * 0 = t.val / 64
    rw [idx_0]; show t.val / 64 * 1 + 1 * 0 = t.val / 64; omega
  | ⟨1, _⟩ =>
    show cc0_transform_0 (grid0.coords t) 1 * 256 + 1 * r.val = t.val % 64 * 256 + r.val
    rw [idx_0]; show t.val % 64 * 256 + 1 * r.val = t.val % 64 * 256 + r.val; omega
  | ⟨2, _⟩ =>
    show cc0_transform_0 (grid0.coords t) 2 * 1024 + 1 * e.val = e.val
    rw [idx_0]; show 0 * 1024 + 1 * e.val = e.val; omega

/-- The gains as the region finds them: the argument as one row. -/
theorem V_gains (c : Dev nD) : V m c main_v0 = shapeCast S1x1024 (gains m c) shapeCasts_S1024_S1x1024 := by
  show StableHlo.after hostOps0 (fun b => m (c, b)) (Proc.devRef .tc main_v0) = _
  after_results
  rfl

/-- The gains' block at a point. -/
theorem iblk_1 (c : Dev nD) (t : Fin grid0.N) (e : Fin 1024) :
    (iblk m c 1 t : Vec Ideal S1x1024 .f32) (ix2 0 e) = gains m c (ix1 e) := by
  refine (View.read_apply (v := ((cfg0.win 1).blk t).view) (V m c (Pipeline.arrRef spec0 1)) _).trans ?_
  show V m c main_v0 _ = _
  have h : ((cfg0.win 1).blk t).view.emb (ix2 0 e : S1x1024.Idx) = (ix2 0 e : S1x1024.Idx) := funext fun a => Fin.ext (by
    match a with
    | ⟨0, _⟩ =>
      show cc0_transform_1 (grid0.coords t) 0 * 1 + 1 * 0 = 0
      rw [idx_1]; rfl
    | ⟨1, _⟩ =>
      show cc0_transform_1 (grid0.coords t) 1 * 1024 + 1 * e.val = e.val
      rw [idx_1]; show 0 * 1024 + 1 * e.val = e.val; omega)
  refine (congrArg (V m c main_v0) h).trans ?_
  refine (congrFun (V_gains m c) _).trans ?_
  pointwise

/-- The body's one load of each block and its one store are whole. -/
theorem out_eq (x : Vec Ideal S1x256x1024 .f32) (g : Vec Ideal S1x1024 .f32) : out0_2 x g = k0_pay1 x g := by
  have h3 : (![0, 0, 0] : Fin 3 → ℕ) = fun _ => 0 := by decide
  have h2 : (![0, 0] : Fin 2 → ℕ) = fun _ => 0 := by decide
  have e0 : View.ld x r0_0 = x := View.ld_unit_zero h3 inb_S1x256x1024_S1x256x1024_0_0_0 x
  have e1 : View.ld g r0_1 = g := View.ld_unit_zero h2 inb_S1x1024_S1x1024_0_0 g
  unfold out0_2
  rw [e0, e1]
  exact View.canon_unit_zero h3 inb_S1x256x1024_S1x256x1024_0_0_0 _

/-- What a point leaves in the result's block. -/
theorem out_apply (c : Dev nD) (t : Fin grid0.N) (r : Fin 256) (d : Fin 1024) :
    out0_2 (iblk m c 0 t) (iblk m c 1 t) (ix3 0 r d) = normed (fun e => stream m c (ix3 (bOf t) (rOf t r) e)) (fun e => gains m c (ix1 e)) d := by
  refine (congrFun (out_eq _ _) _).trans ((pay_apply _ _ r d).trans ?_)
  exact congrFun (congr (congrArg normed (funext fun e => iblk_0 m c t r e)) (funext fun e => iblk_1 m c t e)) d

/-- Each write-back writes its block of the result. -/
theorem flushed_eq (c : Dev nD) (t : Fin grid0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext (y : S1x256x1024.Idx)
  refine Eq.trans ?_ (View.read_apply (v := ((cfg0.win 2).blk t).view) (result m c) y).symm
  have hx : y = ix3 0 (y 1) (y 2) := funext fun a => by
    match a with
    | ⟨0, _⟩ => exact Fin.eq_zero (y 0)
    | ⟨1, _⟩ => rfl
    | ⟨2, _⟩ => rfl
  have h0 : (y 0).val < 1 := (y 0).isLt
  refine (congrArg (out0_2 (iblk m c 0 t) (iblk m c 1 t)) hx).trans ((out_apply m c t (y 1) (y 2)).trans ?_)
  refine Eq.trans ?_ (congrArg (result m c) (show (ix3 (bOf t) (rOf t (y 1)) (y 2) : S2x16384x1024.Idx) = ((cfg0.win 2).blk t).view.emb y from funext fun a => Fin.ext ?_))
  · rfl
  match a with
  | ⟨0, _⟩ =>
    show t.val / 64 = cc0_transform_2 (grid0.coords t) 0 * 1 + 1 * (y 0).val
    rw [idx_2]; show t.val / 64 = t.val / 64 * 1 + 1 * (y 0).val; omega
  | ⟨1, _⟩ =>
    show t.val % 64 * 256 + (y 1).val = cc0_transform_2 (grid0.coords t) 1 * 256 + 1 * (y 1).val
    rw [idx_2]; show t.val % 64 * 256 + (y 1).val = t.val % 64 * 256 + 1 * (y 1).val; omega
  | ⟨2, _⟩ =>
    show (y 2).val = cc0_transform_2 (grid0.coords t) 2 * 1024 + 1 * (y 2).val
    rw [idx_2]; show (y 2).val = 0 * 1024 + 1 * (y 2).val; omega

/-- A point's block is its batch entry's 256 rows. -/
theorem mem_blk (t : Fin grid0.N) (i : S2x16384x1024.Idx) (h0 : (i 0).val = t.val / 64) (h1 : (i 1).val / 256 = t.val % 64) :
    i ∈ ((cfg0.win 2).blk t).view.set := by
  have h2 : (i 2).val < 1024 := (i 2).isLt
  have hi := idx_2 t
  refine (Eq.mpr (congrArg (i ∈ ·) (View.set_slice_whole (b := main_v1) ((cfg0.win 2).rect t))) ?_)
  refine Rect.mem_set_unit.mpr ?_
  intro a
  match a with
  | ⟨0, _⟩ =>
    show cc0_transform_2 (grid0.coords t) 0 * 1 ≤ (i 0).val ∧ (i 0).val < cc0_transform_2 (grid0.coords t) 0 * 1 + 1
    rw [hi]; show t.val / 64 * 1 ≤ (i 0).val ∧ (i 0).val < t.val / 64 * 1 + 1; omega
  | ⟨1, _⟩ =>
    show cc0_transform_2 (grid0.coords t) 1 * 256 ≤ (i 1).val ∧ (i 1).val < cc0_transform_2 (grid0.coords t) 1 * 256 + 256
    rw [hi]; show t.val % 64 * 256 ≤ (i 1).val ∧ (i 1).val < t.val % 64 * 256 + 256; omega
  | ⟨2, _⟩ =>
    show cc0_transform_2 (grid0.coords t) 2 * 1024 ≤ (i 2).val ∧ (i 2).val < cc0_transform_2 (grid0.coords t) 2 * 1024 + 1024
    rw [hi]; show 0 * 1024 ≤ (i 2).val ∧ (i 2).val < 0 * 1024 + 1024; omega

/-- So the result array ends holding the result. -/
theorem final (c : Dev nD) : (dats m 0 c).arrAt 2 cfg0.N = result m c :=
  (dats m 0 c).arrAt_eq_of_cover 2 (result m c) (flushed_eq m c) fun (i : S2x16384x1024.Idx) =>
    have h0 : (i 0).val < 2 := (i 0).isLt
    have h1 : (i 1).val < 16384 := (i 1).isLt
    have hv : (i 0).val * 64 + (i 1).val / 256 < grid0.N := lt_of_lt_of_eq (by omega) N_0.symm
    ⟨⟨(i 0).val * 64 + (i 1).val / 256, hv⟩, flush0_2 _, mem_blk _ i (by show _ = ((i 0).val * 64 + (i 1).val / 256) / 64; omega) (by show _ = ((i 0).val * 64 + (i 1).val / 256) % 64; omega)⟩

/-- The run, read: the result array at the result, the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Cert.NormIdeal.Value.run_blocks m ρ)

end Cert.NormIdeal.Final

namespace Cert.NormReferenceIdeal.Final

open Cert.NormReferenceIdeal Cert.NormReferenceIdeal.Gen Cert.Stream
open Idealize.ShloMosaic Idealize.ShloMosaic.TcCoe Idealize.SL.Sem

/-- The reference's result of the stream and the gains. -/
def out (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt
    (addf (Host.divf (broadcastInDim S2x16384x1 ![0, 1] bcast_S2x16384_S2x16384x1_0_1
        (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

theorem out_apply (x : FVec Ideal S2x16384x1024 .f32) (g : FVec Ideal S1024 .f32) (b : Fin 2) (t : Fin 16384) (d : Fin 1024) :
    out x g (ix3 b t d) = normed (fun e => x (ix3 b t e)) (fun e => g (ix1 e)) d := by
  pointwise [out]
  rfl

/-- The run: the result at `out` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.NormReferenceIdeal.Value.run m ρ

/-- The frame: the arguments unchanged, and no counter to move. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (run m ρ)

end Cert.NormReferenceIdeal.Final

namespace Cert.NormIdeal.Final

open Cert.NormIdeal Cert.NormIdeal.Gen Cert.Stream
open Idealize.ShloMosaic Idealize.ShloMosaic.TcCoe Idealize.SL.Sem

/-- The two results agree. -/
theorem out_eq_result (m : (ℓ : Loc nD τ sig) → Buf (Elt Ideal) ℓ) (c : Dev nD) :
    Cert.NormReferenceIdeal.Final.out (m ((c.tc : Thread nD τ).loc main_arg0)) (m ((c.tc : Thread nD τ).loc main_arg1)) = result m c := by
  funext (i : S2x16384x1024.Idx)
  have hi : i = ix3 (i 0) (i 1) (i 2) := funext fun a => by
    match a with
    | ⟨0, _⟩ => rfl
    | ⟨1, _⟩ => rfl
    | ⟨2, _⟩ => rfl
  exact (congrArg (Cert.NormReferenceIdeal.Final.out (m ((c.tc : Thread nD τ).loc main_arg0)) (m ((c.tc : Thread nD τ).loc main_arg1))) hi).trans
    (Cert.NormReferenceIdeal.Final.out_apply _ _ (i 0) (i 1) (i 2))

end Cert.NormIdeal.Final

end
-- ==== Proof.Ideal.In.lean ====
/- The input projections over the extended reals: the five arrays the two regions leave, as functions of the arguments. -/
module

public import proofs.«01_k».proof.Proof.Ideal.Stream
public import proofs.«01_k».proof.Proof.Gen.MixInIdeal.Frame
public import Idealize.ShloMosaic.Lib.Pipeline.ValueKit
public import Idealize.ShloMosaic.Lib.Pipeline.ValueKit.Partial
public import Idealize.ShloMosaic.Lib.Quiescent

@[expose] public section

set_option maxRecDepth 16384

noncomputable section

namespace Cert.MixInIdeal.In

open Cert.MixInIdeal Cert.MixInIdeal.Gen Cert.Stream
open Idealize.ShloMosaic Idealize.ShloMosaic.TcCoe Idealize.SL.Sem

variable (m : (ℓ : Loc nD τ sig) → Buf (Elt Ideal) ℓ) (ρ : Dev nD → PrngReg)

/-- The arguments. -/
def latents (c : Dev nD) : S2x16384x1024.Idx → EReal := m ((c.tc : Thread nD τ).loc main_arg0)
def context (c : Dev nD) : S2x256x1024.Idx → EReal := m ((c.tc : Thread nD τ).loc main_arg1)
def gains (c : Dev nD) : S1024.Idx → EReal := m ((c.tc : Thread nD τ).loc main_arg2)
def shift (c : Dev nD) : S2x1x1024.Idx → EReal := m ((c.tc : Thread nD τ).loc main_arg3)
def scale (c : Dev nD) : S2x1x1024.Idx → EReal := m ((c.tc : Thread nD τ).loc main_arg4)
def shiftCtx (c : Dev nD) : S2x1x1024.Idx → EReal := m ((c.tc : Thread nD τ).loc main_arg5)
def scaleCtx (c : Dev nD) : S2x1x1024.Idx → EReal := m ((c.tc : Thread nD τ).loc main_arg6)
def weights (c : Dev nD) : S1024x2304.Idx → EReal := m ((c.tc : Thread nD τ).loc main_arg7)

/-- A latent row's projection, and a context row's. -/
def lat (c : Dev nD) (b : Fin 2) (t : Fin 16384) (k : Fin 2304) : EReal :=
  projected (fun e => latents m c (ix3 b t e)) (fun e => gains m c (ix1 e)) (fun e => shift m c (ix3 b 0 e)) (fun e => scale m c (ix3 b 0 e))
    (fun d k => weights m c (ix2 d k)) k
def ctx (c : Dev nD) (b : Fin 2) (t : Fin 256) (k : Fin 2304) : EReal :=
  projected (fun e => context m c (ix3 b t e)) (fun e => gains m c (ix1 e)) (fun e => shiftCtx m c (ix3 b 0 e)) (fun e => scaleCtx m c (ix3 b 0 e))
    (fun d k => weights m c (ix2 d k)) k

/-- The five results. -/
def rwOut (c : Dev nD) : S2x16640x1792.Idx → EReal := fun i =>
  if h : (i 1).val < 256 then ctx m c (i 0) ⟨(i 1).val, h⟩ ⟨(i 2).val, Nat.lt_trans (i 2).isLt (by decide)⟩
  else lat m c (i 0) ⟨(i 1).val - 256, by have h1 : (i 1).val < 16640 := (i 1).isLt; omega⟩ ⟨(i 2).val, Nat.lt_trans (i 2).isLt (by decide)⟩
def poolOut (c : Dev nD) : S2x16384x256.Idx → EReal := fun i => lat m c (i 0) (i 1) ⟨1792 + (i 2).val, by have h2 : (i 2).val < 256 := (i 2).isLt; omega⟩
def fourOut (c : Dev nD) : S2x16384x256.Idx → EReal := fun i => lat m c (i 0) (i 1) ⟨2048 + (i 2).val, by have h2 : (i 2).val < 256 := (i 2).isLt; omega⟩
def poolCtxOut (c : Dev nD) : S2x256x256.Idx → EReal := fun i => ctx m c (i 0) (i 1) ⟨1792 + (i 2).val, by have h2 : (i 2).val < 256 := (i 2).isLt; omega⟩
def fourCtxOut (c : Dev nD) : S2x256x256.Idx → EReal := fun i => ctx m c (i 0) (i 1) ⟨2048 + (i 2).val, by have h2 : (i 2).val < 256 := (i 2).isLt; omega⟩

/-- The body's projected block, read at a row and column. -/
theorem pay3_apply (x : Vec Ideal S1x256x1024 .f32) (g : Vec Ideal S1x1024 .f32) (s a : Vec Ideal S1x1x1024 .f32) (w : Vec Ideal S1024x2304 .bf16)
    (r : Fin 256) (k : Fin 2304) : k0_pay3 x g a s w (ix2 r k)
      = projected (fun e => x (ix3 0 r e)) (fun e => g (ix2 0 e)) (fun e => s (ix3 0 0 e)) (fun e => a (ix3 0 0 e)) (fun d k => w (ix2 d k)) k := by
  pointwise [k0_pay3]
  rfl

/-- The three stored blocks: its first 1792 columns, the 256 after them, and the last 256. -/
theorem pay4_apply (x : Vec Ideal S1x256x1024 .f32) (g : Vec Ideal S1x1024 .f32) (s a : Vec Ideal S1x1x1024 .f32) (w : Vec Ideal S1024x2304 .bf16)
    (r : Fin 256) (k : Fin 1792) : k0_pay4 x g a s w (ix3 0 r k)
      = projected (fun e => x (ix3 0 r e)) (fun e => g (ix2 0 e)) (fun e => s (ix3 0 0 e)) (fun e => a (ix3 0 0 e)) (fun d k => w (ix2 d k))
        ⟨k.val, by omega⟩ := by
  refine Eq.trans ?_ (pay3_apply x g s a w r ⟨k.val, by omega⟩)
  pointwise [k0_pay4]
theorem pay1_apply (x : Vec Ideal S1x256x1024 .f32) (g : Vec Ideal S1x1024 .f32) (s a : Vec Ideal S1x1x1024 .f32) (w : Vec Ideal S1024x2304 .bf16)
    (r : Fin 256) (k : Fin 256) : k0_pay1 (k0_pay5 x g a s w) (ix3 0 r k)
      = projected (fun e => x (ix3 0 r e)) (fun e => g (ix2 0 e)) (fun e => s (ix3 0 0 e)) (fun e => a (ix3 0 0 e)) (fun d k => w (ix2 d k))
        ⟨1792 + k.val, by omega⟩ := by
  refine Eq.trans ?_ (pay3_apply x g s a w r ⟨1792 + k.val, by omega⟩)
  pointwise [k0_pay1, k0_pay5]
theorem pay2_apply (x : Vec Ideal S1x256x1024 .f32) (g : Vec Ideal S1x1024 .f32) (s a : Vec Ideal S1x1x1024 .f32) (w : Vec Ideal S1024x2304 .bf16)
    (r : Fin 256) (k : Fin 256) : k0_pay2 (k0_pay3 x g a s w) (ix3 0 r k)
      = projected (fun e => x (ix3 0 r e)) (fun e => g (ix2 0 e)) (fun e => s (ix3 0 0 e)) (fun e => a (ix3 0 0 e)) (fun d k => w (ix2 d k))
        ⟨2048 + k.val, by omega⟩ := by
  refine Eq.trans ?_ (pay3_apply x g s a w r ⟨2048 + k.val, by omega⟩)
  pointwise [k0_pay2]

/-- The first region's block indices at a point. -/
theorem idx0 : ∀ t : Fin cfg0.N, win0_0.index t = ![t.val / 64, t.val % 64, 0] ∧ win0_1.index t = ![0, 0] ∧ win0_2.index t = ![t.val / 64, 0, 0]
    ∧ win0_3.index t = ![t.val / 64, 0, 0] ∧ win0_4.index t = ![0, 0] ∧ win0_5.index t = ![t.val / 64, t.val % 64 + 1, 0]
    ∧ win0_6.index t = ![t.val / 64, t.val % 64, 0] ∧ win0_7.index t = ![t.val / 64, t.val % 64, 0] :=
  (by decide +kernel : ∀ t : Fin grid0.N, _)
/-- The second region's. -/
theorem idx1 : ∀ t : Fin cfg1.N, win1_0.index t = ![t.val, 0, 0] ∧ win1_1.index t = ![0, 0] ∧ win1_2.index t = ![t.val, 0, 0]
    ∧ win1_3.index t = ![t.val, 0, 0] ∧ win1_4.index t = ![0, 0] ∧ win1_5.index t = ![t.val, 0, 0]
    ∧ win1_6.index t = ![t.val, 0, 0] ∧ win1_7.index t = ![t.val, 0, 0] :=
  (by decide +kernel : ∀ t : Fin grid1.N, _)

/-- What the regions find in the buffers the host writes: the gains as one row, and the weights. -/
theorem V1_gains (c : Dev nD) : V1 m ρ c main_v1 = shapeCast S1x1024 (gains m c) shapeCasts_S1024_S1x1024 := by
  show StableHlo.after hostOps0 (W0 m ρ c) (Proc.devRef .tc main_v1) = _
  after_results
  rfl
theorem V1_weights (c : Dev nD) : V1 m ρ c main_v0 = weights m c := by
  show StableHlo.after hostOps0 (W0 m ρ c) (Proc.devRef .tc main_v0) = _
  after_results
  rfl

/-- A point's batch entry, and a row of its block in the stream. -/
def bOf (t : Fin cfg0.N) : Fin 2 := ⟨t.val / 64, by have := lt_of_lt_of_eq t.isLt N_0; omega⟩
def rOf (t : Fin cfg0.N) (r : Fin 256) : Fin 16384 := ⟨t.val % 64 * 256 + r.val, by omega⟩

/-- The first region's blocks, read at a row and column. -/
theorem iblk0_0 (c : Dev nD) (t : Fin cfg0.N) (r : Fin 256) (e : Fin 1024) :
    (iblk0 (V1 m ρ) c 0 t : Vec Ideal S1x256x1024 .f32) (ix3 0 r e) = latents m c (ix3 (bOf t) (rOf t r) e) := by
  blk_simp [iblk0]
  refine (congrFun (W1_args m ρ c main_arg0 (by decide)) _).trans ?_
  show latents m c _ = _
  blk_ext [idx0 t, bOf, rOf]
theorem iblk0_1 (c : Dev nD) (t : Fin cfg0.N) (e : Fin 1024) :
    (iblk0 (V1 m ρ) c 1 t : Vec Ideal S1x1024 .f32) (ix2 0 e) = gains m c (ix1 e) := by
  blk_simp [iblk0]
  refine (congrFun (V1_gains m ρ c) _).trans ?_
  refine Eq.trans (b := shapeCast S1x1024 (gains m c) shapeCasts_S1024_S1x1024 (ix2 0 e)) ?_ (by pointwise)
  blk_ext [idx0 t]
theorem iblk0_2 (c : Dev nD) (t : Fin cfg0.N) (e : Fin 1024) :
    (iblk0 (V1 m ρ) c 2 t : Vec Ideal S1x1x1024 .f32) (ix3 0 0 e) = shift m c (ix3 (bOf t) 0 e) := by
  blk_simp [iblk0]
  refine (congrFun (W1_args m ρ c main_arg3 (by decide)) _).trans ?_
  show shift m c _ = _
  blk_ext [idx0 t, bOf]
theorem iblk0_3 (c : Dev nD) (t : Fin cfg0.N) (e : Fin 1024) :
    (iblk0 (V1 m ρ) c 3 t : Vec Ideal S1x1x1024 .f32) (ix3 0 0 e) = scale m c (ix3 (bOf t) 0 e) := by
  blk_simp [iblk0]
  refine (congrFun (W1_args m ρ c main_arg4 (by decide)) _).trans ?_
  show scale m c _ = _
  blk_ext [idx0 t, bOf]
theorem iblk0_4 (c : Dev nD) (t : Fin cfg0.N) (d : Fin 1024) (k : Fin 2304) :
    (iblk0 (V1 m ρ) c 4 t : Vec Ideal S1024x2304 .bf16) (ix2 d k) = weights m c (ix2 d k) := by
  blk_simp [iblk0]
  refine (congrFun (V1_weights m ρ c) _).trans ?_
  blk_ext [idx0 t]

/-- The row function over those blocks is the latent row's projection. -/
theorem block0 (c : Dev nD) (t : Fin cfg0.N) (r : Fin 256) (k : Fin 2304) :
    projected (fun e => (iblk0 (V1 m ρ) c 0 t : Vec Ideal S1x256x1024 .f32) (ix3 0 r e)) (fun e => (iblk0 (V1 m ρ) c 1 t : Vec Ideal S1x1024 .f32) (ix2 0 e))
      (fun e => (iblk0 (V1 m ρ) c 2 t : Vec Ideal S1x1x1024 .f32) (ix3 0 0 e)) (fun e => (iblk0 (V1 m ρ) c 3 t : Vec Ideal S1x1x1024 .f32) (ix3 0 0 e))
      (fun d k => (iblk0 (V1 m ρ) c 4 t : Vec Ideal S1024x2304 .bf16) (ix2 d k)) k = lat m c (bOf t) (rOf t r) k := by
  rw [show (fun e => (iblk0 (V1 m ρ) c 0 t : Vec Ideal S1x256x1024 .f32) (ix3 0 r e)) = fun e => latents m c (ix3 (bOf t) (rOf t r) e) from funext fun e => iblk0_0 m ρ c t r e,
    show (fun e => (iblk0 (V1 m ρ) c 1 t : Vec Ideal S1x1024 .f32) (ix2 0 e)) = fun e => gains m c (ix1 e) from funext fun e => iblk0_1 m ρ c t e,
    show (fun e => (iblk0 (V1 m ρ) c 2 t : Vec Ideal S1x1x1024 .f32) (ix3 0 0 e)) = fun e => shift m c (ix3 (bOf t) 0 e) from funext fun e => iblk0_2 m ρ c t e,
    show (fun e => (iblk0 (V1 m ρ) c 3 t : Vec Ideal S1x1x1024 .f32) (ix3 0 0 e)) = fun e => scale m c (ix3 (bOf t) 0 e) from funext fun e => iblk0_3 m ρ c t e,
    show (fun d k => (iblk0 (V1 m ρ) c 4 t : Vec Ideal S1024x2304 .bf16) (ix2 d k)) = fun d k => weights m c (ix2 d k) from funext fun d => funext fun k => iblk0_4 m ρ c t d k]
  rfl

/-- A block's index is its row and column. -/
theorem row_col {n k : ℕ} (y : Shape.Idx (⟨3, ![1, n, k]⟩ : Shape)) : y = ix3 0 (y 1) (y 2) := funext fun a => by
  match a with
  | ⟨0, _⟩ => exact Fin.eq_zero (y 0)
  | ⟨1, _⟩ => rfl
  | ⟨2, _⟩ => rfl

/-- The first region leaves the pool's columns of the latent rows, -/
theorem final0_6 (c : Dev nD) : (dat0 (V1 m ρ) c).arrAt 6 cfg0.N = poolOut m c := by
  refine (dat0 (V1 m ρ) c).arrAt_eq_of_covers 6 _ (by decide +kernel) fun t _ (y : S1x256x256.Idx) => ?_
  blk_simp
  rw [after0_6]
  frame_out
  refine (congrArg (k0_pay1 (k0_pay5 _ _ _ _ _)) (row_col y)).trans ((pay1_apply _ _ _ _ _ (y 1) (y 2)).trans ((block0 m ρ c t (y 1) _).trans ?_))
  show poolOut m c (ix3 (bOf t) (rOf t (y 1)) (y 2)) = _
  blk_ext [idx0 t, bOf, rOf]
/-- the Fourier mixer's columns of them, -/
theorem final0_7 (c : Dev nD) : (dat0 (V1 m ρ) c).arrAt 7 cfg0.N = fourOut m c := by
  refine (dat0 (V1 m ρ) c).arrAt_eq_of_covers 7 _ (by decide +kernel) fun t _ (y : S1x256x256.Idx) => ?_
  blk_simp
  rw [after0_7]
  frame_out
  refine (congrArg (k0_pay2 (k0_pay3 _ _ _ _ _)) (row_col y)).trans ((pay2_apply _ _ _ _ _ (y 1) (y 2)).trans ((block0 m ρ c t (y 1) _).trans ?_))
  show fourOut m c (ix3 (bOf t) (rOf t (y 1)) (y 2)) = _
  blk_ext [idx0 t, bOf, rOf]
/-- and the first group of columns of them from row 256 on. -/
theorem rwOut_of_latent (c : Dev nD) (b : Fin 2) (t : Fin 16384) (k : Fin 1792) :
    rwOut m c (ix3 b ⟨t.val + 256, by omega⟩ k) = lat m c b t ⟨k.val, by omega⟩ := by
  have h : ¬ t.val + 256 < 256 := by omega
  show (if h : t.val + 256 < 256 then _ else _) = _
  rw [dif_neg h]
  exact congrArg (fun t' : Fin 16384 => lat m c b t' ⟨k.val, by omega⟩) (Fin.ext (show t.val + 256 - 256 = t.val by omega))
theorem final0_5 (c : Dev nD) : (dat0 (V1 m ρ) c).arrAt 5 cfg0.N
    = fun i : S2x16640x1792.Idx => if 1 ≤ (i 1).val / 256 then rwOut m c i else V1 m ρ c main_v2_0 i := by
  refine (dat0 (V1 m ρ) c).arrAt_eq_of_coversWhere 5 (rwOut m c) (fun β => 1 ≤ β (1 : Fin _)) (by decide +kernel) (fun t _ (y : S1x256x1792.Idx) => ?_) (fun j => Iff.rfl)
  blk_simp
  rw [after0_5]
  frame_out
  refine (congrArg (k0_pay4 _ _ _ _ _) (row_col y)).trans ((pay4_apply _ _ _ _ _ (y 1) (y 2)).trans ((block0 m ρ c t (y 1) _).trans ?_))
  refine (rwOut_of_latent m c (bOf t) (rOf t (y 1)) (y 2)).symm.trans ?_
  blk_ext [idx0 t, bOf, rOf]

/-- What the second region finds in the buffers the host writes, and in the arguments. -/
theorem V3_gains (c : Dev nD) : V3 m ρ c main_v3 = shapeCast S1x1024 (gains m c) shapeCasts_S1024_S1x1024 := by
  have h : W2 m ρ c (Proc.devRef .tc main_arg2) = gains m c := W2_args m ρ c main_arg2 (by decide)
  show StableHlo.after hostOps1 (W2 m ρ c) (Proc.devRef .tc main_v3) = _
  after_results
  rw [h]
  rfl
theorem V3_weights (c : Dev nD) : V3 m ρ c main_v0 = weights m c :=
  (W3_of m ρ c main_v0 (by decide)).trans ((W2_of m ρ c main_v0 (by decide)).trans (V1_weights m ρ c))
theorem V3_rows (c : Dev nD) : V3 m ρ c main_v4_0 = (dat0 (V1 m ρ) c).arrAt 5 cfg0.N := by
  refine Eq.trans ?_ (W2_arr m ρ c 5)
  show StableHlo.after hostOps1 (W2 m ρ c) (Proc.devRef .tc main_v4_0) = _
  after_results
  rfl

/-- A point's batch entry. -/
def cOf (t : Fin cfg1.N) : Fin 2 := ⟨t.val, lt_of_lt_of_eq t.isLt N_1⟩

/-- The second region's blocks, read at a row and column. -/
theorem iblk1_0 (c : Dev nD) (t : Fin cfg1.N) (r : Fin 256) (e : Fin 1024) :
    (iblk1 (V3 m ρ) c 0 t : Vec Ideal S1x256x1024 .f32) (ix3 0 r e) = context m c (ix3 (cOf t) r e) := by
  blk_simp [iblk1]
  refine (congrFun (W3_args m ρ c main_arg1 (by decide)) _).trans ?_
  show context m c _ = _
  blk_ext [idx1 t, cOf]
theorem iblk1_1 (c : Dev nD) (t : Fin cfg1.N) (e : Fin 1024) :
    (iblk1 (V3 m ρ) c 1 t : Vec Ideal S1x1024 .f32) (ix2 0 e) = gains m c (ix1 e) := by
  blk_simp [iblk1]
  refine (congrFun (V3_gains m ρ c) _).trans ?_
  refine Eq.trans (b := shapeCast S1x1024 (gains m c) shapeCasts_S1024_S1x1024 (ix2 0 e)) ?_ (by pointwise)
  blk_ext [idx1 t]
theorem iblk1_2 (c : Dev nD) (t : Fin cfg1.N) (e : Fin 1024) :
    (iblk1 (V3 m ρ) c 2 t : Vec Ideal S1x1x1024 .f32) (ix3 0 0 e) = shiftCtx m c (ix3 (cOf t) 0 e) := by
  blk_simp [iblk1]
  refine (congrFun (W3_args m ρ c main_arg5 (by decide)) _).trans ?_
  show shiftCtx m c _ = _
  blk_ext [idx1 t, cOf]
theorem iblk1_3 (c : Dev nD) (t : Fin cfg1.N) (e : Fin 1024) :
    (iblk1 (V3 m ρ) c 3 t : Vec Ideal S1x1x1024 .f32) (ix3 0 0 e) = scaleCtx m c (ix3 (cOf t) 0 e) := by
  blk_simp [iblk1]
  refine (congrFun (W3_args m ρ c main_arg6 (by decide)) _).trans ?_
  show scaleCtx m c _ = _
  blk_ext [idx1 t, cOf]
theorem iblk1_4 (c : Dev nD) (t : Fin cfg1.N) (d : Fin 1024) (k : Fin 2304) :
    (iblk1 (V3 m ρ) c 4 t : Vec Ideal S1024x2304 .bf16) (ix2 d k) = weights m c (ix2 d k) := by
  blk_simp [iblk1]
  refine (congrFun (V3_weights m ρ c) _).trans ?_
  blk_ext [idx1 t]

/-- The row function over those blocks is the context row's projection. -/
theorem block1 (c : Dev nD) (t : Fin cfg1.N) (r : Fin 256) (k : Fin 2304) :
    projected (fun e => (iblk1 (V3 m ρ) c 0 t : Vec Ideal S1x256x1024 .f32) (ix3 0 r e)) (fun e => (iblk1 (V3 m ρ) c 1 t : Vec Ideal S1x1024 .f32) (ix2 0 e))
      (fun e => (iblk1 (V3 m ρ) c 2 t : Vec Ideal S1x1x1024 .f32) (ix3 0 0 e)) (fun e => (iblk1 (V3 m ρ) c 3 t : Vec Ideal S1x1x1024 .f32) (ix3 0 0 e))
      (fun d k => (iblk1 (V3 m ρ) c 4 t : Vec Ideal S1024x2304 .bf16) (ix2 d k)) k = ctx m c (cOf t) r k := by
  rw [show (fun e => (iblk1 (V3 m ρ) c 0 t : Vec Ideal S1x256x1024 .f32) (ix3 0 r e)) = fun e => context m c (ix3 (cOf t) r e) from funext fun e => iblk1_0 m ρ c t r e,
    show (fun e => (iblk1 (V3 m ρ) c 1 t : Vec Ideal S1x1024 .f32) (ix2 0 e)) = fun e => gains m c (ix1 e) from funext fun e => iblk1_1 m ρ c t e,
    show (fun e => (iblk1 (V3 m ρ) c 2 t : Vec Ideal S1x1x1024 .f32) (ix3 0 0 e)) = fun e => shiftCtx m c (ix3 (cOf t) 0 e) from funext fun e => iblk1_2 m ρ c t e,
    show (fun e => (iblk1 (V3 m ρ) c 3 t : Vec Ideal S1x1x1024 .f32) (ix3 0 0 e)) = fun e => scaleCtx m c (ix3 (cOf t) 0 e) from funext fun e => iblk1_3 m ρ c t e,
    show (fun d k => (iblk1 (V3 m ρ) c 4 t : Vec Ideal S1024x2304 .bf16) (ix2 d k)) = fun d k => weights m c (ix2 d k) from funext fun d => funext fun k => iblk1_4 m ρ c t d k]
  rfl

/-- The second region leaves the pool's columns of the context rows, -/
theorem final1_6 (c : Dev nD) : (dat1 (V3 m ρ) c).arrAt 6 cfg1.N = poolCtxOut m c := by
  refine (dat1 (V3 m ρ) c).arrAt_eq_of_covers 6 _ (by decide +kernel) fun t _ (y : S1x256x256.Idx) => ?_
  blk_simp
  rw [after1_6]
  unfold outsAt1
  frame_out
  refine (congrArg (k0_pay1 (k0_pay5 _ _ _ _ _)) (row_col y)).trans ((pay1_apply _ _ _ _ _ (y 1) (y 2)).trans ((block1 m ρ c t (y 1) _).trans ?_))
  show poolCtxOut m c (ix3 (cOf t) (y 1) (y 2)) = _
  blk_ext [idx1 t, cOf]
/-- the Fourier mixer's columns of them, -/
theorem final1_7 (c : Dev nD) : (dat1 (V3 m ρ) c).arrAt 7 cfg1.N = fourCtxOut m c := by
  refine (dat1 (V3 m ρ) c).arrAt_eq_of_covers 7 _ (by decide +kernel) fun t _ (y : S1x256x256.Idx) => ?_
  blk_simp
  rw [after1_7]
  unfold outsAt1
  frame_out
  refine (congrArg (k0_pay2 (k0_pay3 _ _ _ _ _)) (row_col y)).trans ((pay2_apply _ _ _ _ _ (y 1) (y 2)).trans ((block1 m ρ c t (y 1) _).trans ?_))
  show fourCtxOut m c (ix3 (cOf t) (y 1) (y 2)) = _
  blk_ext [idx1 t, cOf]
/-- and the first group's array: the context's rows over the rows the first region left from 256 on. -/
theorem rwOut_of_context (c : Dev nD) (b : Fin 2) (t : Fin 256) (k : Fin 1792) :
    rwOut m c (ix3 b ⟨t.val, by omega⟩ k) = ctx m c b t ⟨k.val, by omega⟩ := by
  show (if h : t.val < 256 then _ else _) = _
  rw [dif_pos t.isLt]
  rfl
theorem final1_5 (c : Dev nD) : (dat1 (V3 m ρ) c).arrAt 5 cfg1.N = rwOut m c := by
  refine (dat1 (V3 m ρ) c).arrAt_eq_of_coversWhere_of_agree 5 (rwOut m c) (fun β => β (1 : Fin _) < 1) (by decide +kernel) (fun t _ (y : S1x256x1792.Idx) => ?_) (fun j hj => ?_)
  · blk_simp
    rw [after1_5]
    unfold outsAt1
    frame_out
    refine (congrArg (k0_pay4 _ _ _ _ _) (row_col y)).trans ((pay4_apply _ _ _ _ _ (y 1) (y 2)).trans ((block1 m ρ c t (y 1) _).trans ?_))
    refine (rwOut_of_context m c (cOf t) (y 1) (y 2)).symm.trans ?_
    blk_ext [idx1 t, cOf]
  · refine (congrFun (A_eq1 (V3 m ρ) c 5) _).trans ?_
    refine (congrFun ((V3_rows m ρ c).trans (final0_5 m ρ c)) _).trans ?_
    exact if_pos (Nat.le_of_not_lt hj)

/-- The last boundary's contents of the five results. -/
theorem W4_rows (c : Dev nD) : W4 m ρ c (Proc.devRef .tc main_v4_0) = rwOut m c := (W4_arr m ρ c 5).trans (final1_5 m ρ c)
theorem W4_pool (c : Dev nD) : W4 m ρ c (Proc.devRef .tc main_v2_1) = poolOut m c :=
  (W4_of_ne m ρ c main_v2_1 (by decide)).trans ((W3_of m ρ c main_v2_1 (by decide)).trans ((W2_arr m ρ c 6).trans (final0_6 m ρ c)))
theorem W4_four (c : Dev nD) : W4 m ρ c (Proc.devRef .tc main_v2_2) = fourOut m c :=
  (W4_of_ne m ρ c main_v2_2 (by decide)).trans ((W3_of m ρ c main_v2_2 (by decide)).trans ((W2_arr m ρ c 7).trans (final0_7 m ρ c)))
theorem W4_poolCtx (c : Dev nD) : W4 m ρ c (Proc.devRef .tc main_v4_1) = poolCtxOut m c := (W4_arr m ρ c 6).trans (final1_6 m ρ c)
theorem W4_fourCtx (c : Dev nD) : W4 m ρ c (Proc.devRef .tc main_v4_2) = fourCtxOut m c := (W4_arr m ρ c 7).trans (final1_7 m ρ c)

end Cert.MixInIdeal.In

end
-- ==== Proof.Ideal.InReference.lean ====
/- The reference's input projections over the extended reals: a stream's three groups of columns of its projected rows, and the
   first group's array, the context's rows before the latents'. -/
module

public import proofs.«01_k».proof.Proof.Ideal.Stream
public import proofs.«01_k».proof.Proof.Gen.MixInReferenceIdeal.Run
public import Idealize.ShloMosaic.Lib.Quiescent

@[expose] public section

set_option maxRecDepth 16384

noncomputable section

namespace Cert.MixInReferenceIdeal.In

open Cert.MixInReferenceIdeal Cert.MixInReferenceIdeal.Gen Cert.Stream
open Idealize.ShloMosaic Idealize.ShloMosaic.TcCoe Idealize.SL.Sem

variable (h : FVec Ideal S2x16384x1024 .f32) (hc : FVec Ideal S2x256x1024 .f32) (g : FVec Ideal S1024 .f32) (sh sc shc scc : FVec Ideal S2x1x1024 .f32)
  (w : FVec Ideal S1024x2304 .f32)

/-- One more than the scales. -/
def onePlus (s : FVec Ideal S2x1x1024 .f32) : FVec Ideal S2x1x1024 .f32 := addf (broadcastInDim S2x1x1024 ![] bcast_S_S2x1x1024 (constant S_ .f32 0x3F800000#32)) s

/-- The latents' normalised rows. -/
def norm : FVec Ideal S2x16384x1024 .f32 :=
  mulf (mulf h (broadcastInDim S2x16384x1024 ![0, 1, 2] bcast_S2x16384x1_S2x16384x1024_0_1_2 (Host.rsqrt
    (addf (Host.divf (broadcastInDim S2x16384x1 ![0, 1] bcast_S2x16384_S2x16384x1_0_1
        (Host.reduceAdd (mulf h h) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The context's normalised rows. -/
def normCtx : FVec Ideal S2x256x1024 .f32 :=
  mulf (mulf hc (broadcastInDim S2x256x1024 ![0, 1, 2] bcast_S2x256x1_S2x256x1024_0_1_2 (Host.rsqrt
    (addf (Host.divf (broadcastInDim S2x256x1 ![0, 1] bcast_S2x256_S2x256x1_0_1
        (Host.reduceAdd (mulf hc hc) (constant S_ .f32 0x00000000#32) reducesTo_S2x256x1024_S2x256_d2 h_S_))
        (broadcastInDim S2x256x1 ![] bcast_S_S2x256x1 (constant S_ .f32 0x44800000#32)))
      (broadcastInDim S2x256x1 ![] bcast_S_S2x256x1 (constant S_ .f32 0x358637BD#32))))))
    (broadcastInDim S2x256x1024 ![0, 1, 2] bcast_S1x1x1024_S2x256x1024_0_1_2 (broadcastInDim S1x1x1024 ![2] bcast_S1024_S1x1x1024_2 g))

/-- The latents' projected rows. -/
def proj : FVec Ideal S2x16384x2304 .f32 :=
  Host.dotGeneral (φ₂ := .f32) dot_S2x16384x1024_S1024x2304_S2x16384x2304_2_0_01_1_n_n none
    (addf (mulf (norm h g) (broadcastInDim S2x16384x1024 ![0, 1, 2] bcast_S2x1x1024_S2x16384x1024_0_1_2 (onePlus sc)))
      (broadcastInDim S2x16384x1024 ![0, 1, 2] bcast_S2x1x1024_S2x16384x1024_0_1_2 sh)) w

/-- The context's projected rows. -/
def projCtx : FVec Ideal S2x256x2304 .f32 :=
  Host.dotGeneral (φ₂ := .f32) dot_S2x256x1024_S1024x2304_S2x256x2304_2_0_01_1_n_n none
    (addf (mulf (normCtx hc g) (broadcastInDim S2x256x1024 ![0, 1, 2] bcast_S2x1x1024_S2x256x1024_0_1_2 (onePlus scc)))
      (broadcastInDim S2x256x1024 ![0, 1, 2] bcast_S2x1x1024_S2x256x1024_0_1_2 shc)) w

/-- The five results. -/
def rw_ : FVec Ideal S2x16640x1792 .f32 :=
  concatenate S2x16640x1792 1 [⟨S2x256x1792, extractStridedSlice S2x256x1792 ![0, 0, 0] (projCtx hc g shc scc w) slices_S2x256x2304_S2x256x1792_0_0_0⟩,
    ⟨S2x16384x1792, extractStridedSlice S2x16384x1792 ![0, 0, 0] (proj h g sh sc w) slices_S2x16384x2304_S2x16384x1792_0_0_0⟩]
    concatenates_S2x256x1792_S2x16384x1792_S2x16640x1792_d1
def pool : FVec Ideal S2x16384x256 .f32 := extractStridedSlice S2x16384x256 ![0, 0, 1792] (proj h g sh sc w) slices_S2x16384x2304_S2x16384x256_0_0_1792
def four : FVec Ideal S2x16384x256 .f32 := extractStridedSlice S2x16384x256 ![0, 0, 2048] (proj h g sh sc w) slices_S2x16384x2304_S2x16384x256_0_0_2048
def poolCtx : FVec Ideal S2x256x256 .f32 := extractStridedSlice S2x256x256 ![0, 0, 1792] (projCtx hc g shc scc w) slices_S2x256x2304_S2x256x256_0_0_1792
def fourCtx : FVec Ideal S2x256x256 .f32 := extractStridedSlice S2x256x256 ![0, 0, 2048] (projCtx hc g shc scc w) slices_S2x256x2304_S2x256x256_0_0_2048

theorem norm_apply (b : Fin 2) (t : Fin 16384) (d : Fin 1024) : norm h g (ix3 b t d) = normed (fun e => h (ix3 b t e)) (fun e => g (ix1 e)) d := by
  pointwise [norm]
  rfl

theorem normCtx_apply (b : Fin 2) (t : Fin 256) (d : Fin 1024) : normCtx hc g (ix3 b t d) = normed (fun e => hc (ix3 b t e)) (fun e => g (ix1 e)) d := by
  pointwise [normCtx]
  rfl

theorem proj_apply (b : Fin 2) (t : Fin 16384) (k : Fin 2304) : proj h g sh sc w (ix3 b t k)
    = projected (fun e => h (ix3 b t e)) (fun e => g (ix1 e)) (fun e => sh (ix3 b 0 e)) (fun e => sc (ix3 b 0 e)) (fun d k => w (ix2 d k)) k := by
  have hn : ∀ d, norm h g (ix3 b t d) = normed (fun e => h (ix3 b t e)) (fun e => g (ix1 e)) d := norm_apply h g b t
  pointwise [proj, onePlus]
  refine Finset.sum_congr rfl fun d _ => ?_
  rw [hn]
  rfl

theorem projCtx_apply (b : Fin 2) (t : Fin 256) (k : Fin 2304) : projCtx hc g shc scc w (ix3 b t k)
    = projected (fun e => hc (ix3 b t e)) (fun e => g (ix1 e)) (fun e => shc (ix3 b 0 e)) (fun e => scc (ix3 b 0 e)) (fun d k => w (ix2 d k)) k := by
  have hn : ∀ d, normCtx hc g (ix3 b t d) = normed (fun e => hc (ix3 b t e)) (fun e => g (ix1 e)) d := normCtx_apply hc g b t
  pointwise [projCtx, onePlus]
  refine Finset.sum_congr rfl fun d _ => ?_
  rw [hn]
  rfl

theorem pool_apply (b : Fin 2) (t : Fin 16384) (k : Fin 256) : pool h g sh sc w (ix3 b t k) = proj h g sh sc w (ix3 b t ⟨1792 + k.val, by omega⟩) := by
  pointwise [pool]
theorem four_apply (b : Fin 2) (t : Fin 16384) (k : Fin 256) : four h g sh sc w (ix3 b t k) = proj h g sh sc w (ix3 b t ⟨2048 + k.val, by omega⟩) := by
  pointwise [four]
theorem poolCtx_apply (b : Fin 2) (t : Fin 256) (k : Fin 256) : poolCtx hc g shc scc w (ix3 b t k) = projCtx hc g shc scc w (ix3 b t ⟨1792 + k.val, by omega⟩) := by
  pointwise [poolCtx]
theorem fourCtx_apply (b : Fin 2) (t : Fin 256) (k : Fin 256) : fourCtx hc g shc scc w (ix3 b t k) = projCtx hc g shc scc w (ix3 b t ⟨2048 + k.val, by omega⟩) := by
  pointwise [fourCtx]
theorem rw_apply (b : Fin 2) (t : Fin 16640) (k : Fin 1792) : rw_ h hc g sh sc shc scc w (ix3 b t k)
    = if ht : t.val < 256 then projCtx hc g shc scc w (ix3 b ⟨t.val, ht⟩ ⟨k.val, by omega⟩)
      else proj h g sh sc w (ix3 b ⟨t.val - 256, by omega⟩ ⟨k.val, by omega⟩) := by
  pointwise [rw_]

/-- The run: each result at its function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = rw_ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v41) = pool (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v42) = four (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v44) = poolCtx (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7))
      ∧ r.2.mem ((c.tc : Thread nD τ).loc main_v45) = fourCtx (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.MixInReferenceIdeal.Value.run m ρ

/-- The frame: the arguments unchanged, and no counter to move. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 :=
  (θ_run defs _ _).mono (fun r h => ⟨fun c => (h c).2.2.2.2.2, sem_eq_zero_of_no_sems (by decide) r.2⟩) (run m ρ)

end Cert.MixInReferenceIdeal.In

end
-- ==== Proof.Ideal.InRun.lean ====
/- The run of the input projections over the extended reals, and its results against the reference's functions of the same
   arguments. -/
module

public import proofs.«01_k».proof.Proof.Ideal.In
public import proofs.«01_k».proof.Proof.Ideal.InReference

@[expose] public section

set_option maxRecDepth 16384

noncomputable section

namespace Cert.MixInIdeal.In

open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: each result at its function of the arguments, the arguments unchanged. -/
theorem run : θ_run defs (onTc (τ := τ) (main (F := Ideal))) ⟨m, fun _ => 0, ρ⟩ (fun r => ∀ c : Dev nD,
      r.2.mem ((c.tc : Thread nD τ).loc main_v4_0) = rwOut m c
      ∧ r.2.mem ((c.tc : Thread nD τ).loc main_v2_1) = poolOut m c
      ∧ r.2.mem ((c.tc : Thread nD τ).loc main_v2_2) = fourOut m c
      ∧ r.2.mem ((c.tc : Thread nD τ).loc main_v4_1) = poolCtxOut m c
      ∧ r.2.mem ((c.tc : Thread nD τ).loc main_v4_2) = fourCtxOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v4_0 (by decide))).trans (W4_rows m ρ c),
       (h c _ (mem_uc main_v2_1 (by decide))).trans (W4_pool m ρ c),
       (h c _ (mem_uc main_v2_2 (by decide))).trans (W4_four m ρ c),
       (h c _ (mem_uc main_v4_1 (by decide))).trans (W4_poolCtx m ρ c),
       (h c _ (mem_uc main_v4_2 (by decide))).trans (W4_fourCtx m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- An index of three axes is its coordinates. -/
theorem ix3_eta {a b d : ℕ} (y : Shape.Idx (⟨3, ![a, b, d]⟩ : Shape)) : y = ix3 (y 0) (y 1) (y 2) := funext fun i => by
  match i with
  | ⟨0, _⟩ => rfl
  | ⟨1, _⟩ => rfl
  | ⟨2, _⟩ => rfl

/-- The reference's functions of the same arguments are the same arrays. -/
theorem rwOut_eq (c : Dev nD) : rwOut m c = Cert.MixInReferenceIdeal.In.rw_ (latents m c) (context m c) (gains m c) (shift m c) (scale m c) (shiftCtx m c)
    (scaleCtx m c) (weights m c) := by
  funext (y : S2x16640x1792.Idx)
  rw [show y = ix3 (y 0) (y 1) (y 2) from ix3_eta y]
  refine Eq.trans ?_ (Cert.MixInReferenceIdeal.In.rw_apply _ _ _ _ _ _ _ _ (y 0) (y 1) (y 2)).symm
  show (if h : (y 1).val < 256 then _ else _) = _
  by_cases h : (y 1).val < 256
  · rw [dif_pos h, dif_pos h]
    exact (Cert.MixInReferenceIdeal.In.projCtx_apply _ _ _ _ _ _ _ _).symm
  · rw [dif_neg h, dif_neg h]
    exact (Cert.MixInReferenceIdeal.In.proj_apply _ _ _ _ _ _ _ _).symm
theorem poolOut_eq (c : Dev nD) : poolOut m c = Cert.MixInReferenceIdeal.In.pool (latents m c) (gains m c) (shift m c) (scale m c) (weights m c) := by
  funext (y : S2x16384x256.Idx)
  refine Eq.trans ?_ (congrArg _ (ix3_eta y)).symm
  exact ((Cert.MixInReferenceIdeal.In.pool_apply _ _ _ _ _ (y 0) (y 1) (y 2)).trans (Cert.MixInReferenceIdeal.In.proj_apply _ _ _ _ _ _ _ _)).symm
theorem fourOut_eq (c : Dev nD) : fourOut m c = Cert.MixInReferenceIdeal.In.four (latents m c) (gains m c) (shift m c) (scale m c) (weights m c) := by
  funext (y : S2x16384x256.Idx)
  refine Eq.trans ?_ (congrArg _ (ix3_eta y)).symm
  exact ((Cert.MixInReferenceIdeal.In.four_apply _ _ _ _ _ (y 0) (y 1) (y 2)).trans (Cert.MixInReferenceIdeal.In.proj_apply _ _ _ _ _ _ _ _)).symm
theorem poolCtxOut_eq (c : Dev nD) : poolCtxOut m c = Cert.MixInReferenceIdeal.In.poolCtx (context m c) (gains m c) (shiftCtx m c) (scaleCtx m c) (weights m c) := by
  funext (y : S2x256x256.Idx)
  refine Eq.trans ?_ (congrArg _ (ix3_eta y)).symm
  exact ((Cert.MixInReferenceIdeal.In.poolCtx_apply _ _ _ _ _ (y 0) (y 1) (y 2)).trans (Cert.MixInReferenceIdeal.In.projCtx_apply _ _ _ _ _ _ _ _)).symm
theorem fourCtxOut_eq (c : Dev nD) : fourCtxOut m c = Cert.MixInReferenceIdeal.In.fourCtx (context m c) (gains m c) (shiftCtx m c) (scaleCtx m c) (weights m c) := by
  funext (y : S2x256x256.Idx)
  refine Eq.trans ?_ (congrArg _ (ix3_eta y)).symm
  exact ((Cert.MixInReferenceIdeal.In.fourCtx_apply _ _ _ _ _ (y 0) (y 1) (y 2)).trans (Cert.MixInReferenceIdeal.In.projCtx_apply _ _ _ _ _ _ _ _)).symm

end Cert.MixInIdeal.In

end
-- ==== Proof.Ideal.Readout.lean ====
/- The plain functions of a position's readout over the extended reals: the mean over a head's channels, the group norm, the
   bonus and the gate, and the output projection of the three mixers' columns; and that a head's sum taken against the matrix of
   ones within heads, in three parts of which the later two are a real less itself, is the head's sum. -/
module

public import Idealize.ShloMosaic.Lib.Pointwise
public import Idealize.ShloMosaic.Lib.IdealHost

@[expose] public section

noncomputable section

namespace Cert.Readout

open Idealize.ShloMosaic

/-- Channel `k` of channel `n`'s head. -/
def headAt (n : Fin 512) (k : Fin 64) : Fin 512 := ⟨n.val / 64 * 64 + k.val, by omega⟩

/-- The mean over a channel's head. -/
def headMean (y : Fin 512 → EReal) (n : Fin 512) : EReal := Ideal.div (∑ k, y (headAt n k)) (Ideal.ofBits .f32 0x42800000#32)

/-- A channel less its head's mean. -/
def dev (y : Fin 512 → EReal) (n : Fin 512) : EReal := y n - headMean y n

/-- The variance over a channel's head. -/
def headVar (y : Fin 512 → EReal) (n : Fin 512) : EReal := headMean (fun k => dev y k * dev y k) n

/-- The readout: the group norm with its gains and shifts, the bonus of the values, the gate. -/
def gated (y v bonus gate g b : Fin 512 → EReal) (n : Fin 512) : EReal :=
  (dev y n * Ideal.rsqrt (headVar y n + Ideal.ofBits .f32 0x3A27C5AC#32) * g n + b n + bonus n * v n) * gate n

/-- The three mixers' columns side by side. -/
def beside (r : Fin 512 → EReal) (pool four : Fin 256 → EReal) (k : Fin 1024) : EReal :=
  if h : k.val < 512 then r ⟨k.val, h⟩ else if h' : k.val - 512 < 256 then pool ⟨k.val - 512, h'⟩ else four ⟨k.val - 512 - 256, by omega⟩

/-- The stream's row after its mixers. -/
def mixed (r : Fin 1024 → EReal) (h g1 : Fin 1024 → EReal) (w : Fin 1024 → Fin 1024 → EReal) (d : Fin 1024) : EReal :=
  h d + g1 d * ∑ k, r k * w k d

/-- One where two channels share a head, zero elsewhere. -/
def within (k n : Fin 512) : EReal := if k.val / 64 = n.val / 64 then 1 else 0

/-- A row's product with a matrix in three parts: the row, the row less itself, and that less itself. -/
def parts (x : Fin 512 → EReal) (w : Fin 512 → EReal) : EReal :=
  ((∑ k, x k * w k) + ∑ k, (x k - x k) * w k) + ∑ k, ((x k - x k) - (x k - x k)) * w k

/-- The product with the ones within heads is the sum over the head. -/
theorem sum_within (x : Fin 512 → EReal) (n : Fin 512) : ∑ k, x k * within k n = ∑ j, x (headAt n j) := by
  have h1 : ∀ k : Fin 512, x k * within k n = if k.val / 64 = n.val / 64 then x k else 0 := fun k => by
    unfold within; split <;> simp
  rw [Finset.sum_congr rfl fun k _ => h1 k, ← Finset.sum_filter]
  symm
  refine Finset.sum_nbij (headAt n) (fun j _ => ?_) (fun j _ j' _ e => ?_) (fun k hk => ?_) (fun _ _ => rfl)
  · refine Finset.mem_filter.mpr ⟨Finset.mem_univ _, ?_⟩
    show (n.val / 64 * 64 + j.val) / 64 = n.val / 64
    omega
  · have : n.val / 64 * 64 + j.val = n.val / 64 * 64 + j'.val := congrArg Fin.val e
    exact Fin.ext (by omega)
  · have hk' : k.val / 64 = n.val / 64 := (Finset.mem_filter.mp hk).2
    exact ⟨⟨k.val % 64, by omega⟩, Finset.mem_coe.mpr (Finset.mem_univ _), Fin.ext (show n.val / 64 * 64 + k.val % 64 = k.val by omega)⟩

/-- Real rows: the later two parts vanish. -/
theorem parts_real (r : Fin 512 → ℝ) (w : Fin 512 → EReal) : parts (fun k => (r k : EReal)) w = ∑ k, (r k : EReal) * w k := by
  have h : ∀ k, (r k : EReal) - (r k : EReal) = 0 := fun k => by rw [← EReal.coe_sub, sub_self, EReal.coe_zero]
  simp [parts, h]

theorem sixtyfour : Ideal.ofBits .f32 0x42800000#32 = ((64 : ℝ) : EReal) := by
  simp [Ideal.ofBits, Ideal.ieee, -EReal.coe_mul]; norm_num

theorem sixtyfourth : Ideal.ofBits .f32 0x3C800000#32 = ((1 / 64 : ℝ) : EReal) := by
  simp [Ideal.ofBits, Ideal.ieee, -EReal.coe_mul]; norm_num

/-- The three parts against the ones within heads, times a sixty-fourth, are the head's mean. -/
theorem parts_mean (y : Fin 512 → EReal) (hy : ∀ k, ∃ r : ℝ, y k = r) (n : Fin 512) :
    parts y (fun k => within k n) * Ideal.ofBits .f32 0x3C800000#32 = headMean y n := by
  choose r hr using hy
  obtain rfl : y = fun k => (r k : EReal) := funext hr
  rw [parts_real, sum_within (fun k => (r k : EReal)), headMean, sixtyfour, Ideal.div_coe (by norm_num), sixtyfourth]

/-- A real row's means are real, so its deviations and their squares. -/
theorem headMean_real (y : Fin 512 → EReal) (hy : ∀ k, ∃ r : ℝ, y k = r) (n : Fin 512) : ∃ r : ℝ, headMean y n = r := by
  choose r hr using hy
  refine ⟨(∑ k, r (headAt n k)) * (1 / 64), ?_⟩
  rw [headMean, sixtyfour, Ideal.div_coe (by norm_num), Finset.sum_congr rfl fun k _ => hr (headAt n k)]
  push_cast
  rfl

theorem dev_real (y : Fin 512 → EReal) (hy : ∀ k, ∃ r : ℝ, y k = r) (n : Fin 512) : ∃ r : ℝ, dev y n = r := by
  obtain ⟨a, ha⟩ := hy n
  obtain ⟨b, hb⟩ := headMean_real y hy n
  exact ⟨a - b, by rw [dev, ha, hb, EReal.coe_sub]⟩

theorem dev_sq_real (y : Fin 512 → EReal) (hy : ∀ k, ∃ r : ℝ, y k = r) (n : Fin 512) : ∃ r : ℝ, dev y n * dev y n = r := by
  obtain ⟨a, ha⟩ := dev_real y hy n
  exact ⟨a * a, by rw [ha, EReal.coe_mul]⟩

/-- The deviation as the three parts give it, and the variance. -/
theorem dev_parts (y : Fin 512 → EReal) (hy : ∀ k, ∃ r : ℝ, y k = r) (n : Fin 512) :
    y n - parts y (fun k => within k n) * Ideal.ofBits .f32 0x3C800000#32 = dev y n := by
  rw [parts_mean y hy, dev]

theorem var_parts (y : Fin 512 → EReal) (hy : ∀ k, ∃ r : ℝ, y k = r) (n : Fin 512) :
    parts (fun k => dev y k * dev y k) (fun k => within k n) * Ideal.ofBits .f32 0x3C800000#32 = headVar y n :=
  parts_mean _ (dev_sq_real y hy) n

end Cert.Readout

end
-- ==== Proof.Ideal.OutBody.lean ====
/- The output mix's body over the extended reals: a row of the stored block, as the plain functions of the loaded blocks. -/
module

public import proofs.«01_k».proof.Proof.Ideal.Readout
public import proofs.«01_k».proof.Proof.Gen.MixOutIdeal.Skeleton

@[expose] public section

set_option maxRecDepth 16384

noncomputable section

namespace Cert.MixOutIdeal.Out

open Cert.MixOutIdeal Cert.MixOutIdeal.Gen Cert.Readout
open Idealize.ShloMosaic

variable (yf yb v bonus gate : Vec Ideal S1x256x512 .f32) (pool four : Vec Ideal S1x256x256 .f32) (h : Vec Ideal S1x256x1024 .f32)
  (lg lb : Vec Ideal S1x512 .f32) (ones : Vec Ideal S512x512 .bf16) (w : Vec Ideal S1024x1024 .bf16) (g1 : Vec Ideal S1x1x1024 .f32)

/-- The two scans' sum in a row of the blocks. -/
def bothAt (r : Fin 256) (n : Fin 512) : EReal := yf (ix3 0 r n) + yb (ix3 0 r n)

/-- The deviation from the head's mean, the mean by the product in three parts. -/
theorem pay3_apply (r : Fin 256) (n : Fin 512) : k0_pay3 yf yb ones (ix2 r n)
    = bothAt yf yb r n - parts (bothAt yf yb r) (fun k => ones (ix2 k n)) * Ideal.ofBits .f32 0x3C800000#32 := by
  pointwise [k0_pay3, k0_pay2]
  rfl

/-- The squared deviations' product in three parts. -/
theorem pay4_apply (r : Fin 256) (n : Fin 512) : k0_pay4 yf yb ones (ix2 r n)
    = parts (fun k => k0_pay3 yf yb ones (ix2 r k) * k0_pay3 yf yb ones (ix2 r k)) (fun k => ones (ix2 k n)) := by
  pointwise [k0_pay4, k0_pay2]
  rfl

/-- The projected columns, of the deviation and the squared deviations' product. -/
theorem pay5_apply (a q : FVec Ideal S256x512 .f32) (r : Fin 256) (d : Fin 1024) :
    k0_pay5 a q lg lb bonus v gate pool four w (ix2 r d)
      = ∑ k, beside (fun n => (a (ix2 r n) * Ideal.rsqrt (q (ix2 r n) * Ideal.ofBits .f32 0x3C800000#32 + Ideal.ofBits .f32 0x3A27C5AC#32) * lg (ix2 0 n) + lb (ix2 0 n)
          + bonus (ix3 0 r n) * v (ix3 0 r n)) * gate (ix3 0 r n)) (fun k => pool (ix3 0 r k)) (fun k => four (ix3 0 r k)) k * w (ix2 k d) := by
  pointwise [k0_pay5]
  rfl

/-- The stored row, of the projected columns. -/
theorem pay1_apply (x : FVec Ideal S256x1024 .f32) (r : Fin 256) (d : Fin 1024) :
    k0_pay1 x h g1 (ix3 0 r d) = h (ix3 0 r d) + g1 (ix3 0 0 d) * x (ix2 r d) := by
  pointwise [k0_pay1]

/-- The body's stored block. -/
def stored : FVec Ideal S1x256x1024 .f32 :=
  k0_pay1 (k0_pay5 (k0_pay3 yf yb ones) (k0_pay4 yf yb ones) lg lb bonus v gate pool four w) h g1

/-- A row of it: where the matrix is the ones within heads and the scans' sum is real, the mixed row. -/
theorem stored_apply (r : Fin 256) (d : Fin 1024) (ho : ∀ k n, ones (ix2 k n) = within k n) (hy : ∀ k, ∃ x : ℝ, bothAt yf yb r k = x) :
    stored yf yb v bonus gate pool four h lg lb ones w g1 (ix3 0 r d)
      = mixed (beside (gated (bothAt yf yb r) (fun n => v (ix3 0 r n)) (fun n => bonus (ix3 0 r n)) (fun n => gate (ix3 0 r n))
          (fun n => lg (ix2 0 n)) (fun n => lb (ix2 0 n))) (fun k => pool (ix3 0 r k)) (fun k => four (ix3 0 r k)))
        (fun d => h (ix3 0 r d)) (fun d => g1 (ix3 0 0 d)) (fun k d => w (ix2 k d)) d := by
  have hd : ∀ n, k0_pay3 yf yb ones (ix2 r n) = dev (bothAt yf yb r) n := fun n => by
    rw [pay3_apply, funext fun k => ho k n]
    exact dev_parts _ hy n
  have hv : ∀ n, k0_pay4 yf yb ones (ix2 r n) * Ideal.ofBits .f32 0x3C800000#32 = headVar (bothAt yf yb r) n := fun n => by
    have hq : (fun k => k0_pay3 yf yb ones (ix2 r k) * k0_pay3 yf yb ones (ix2 r k)) = fun k => dev (bothAt yf yb r) k * dev (bothAt yf yb r) k :=
      funext fun k => by rw [hd k]
    rw [pay4_apply, funext fun k => ho k n, hq]
    exact var_parts _ hy n
  unfold stored mixed
  rw [pay1_apply, pay5_apply]
  refine congrArg (fun s => h (ix3 0 r d) + g1 (ix3 0 0 d) * s) (Finset.sum_congr rfl fun k _ => ?_)
  refine congrArg (fun f => beside f (fun k => pool (ix3 0 r k)) (fun k => four (ix3 0 r k)) k * w (ix2 k d)) (funext fun n => ?_)
  unfold gated
  rw [hd n]
  show (_ * Ideal.rsqrt (k0_pay4 yf yb ones (ix2 r n) * Ideal.ofBits .f32 0x3C800000#32 + _) * _ + _ + _) * _ = _
  rw [hv n]

end Cert.MixOutIdeal.Out

end
-- ==== Proof.Ideal.Ones.lean ====
/- The kernel's constant matrix, which the host builds as a Kronecker product: one where two channels share a head, zero elsewhere. -/
module

public import proofs.«01_k».proof.MixOutIdeal
public import proofs.«01_k».proof.Proof.Gen.MixOutIdeal
public import proofs.«01_k».proof.Proof.Ideal.Readout
public import Idealize.ShloMosaic.Lib.Pipeline.ValueKit

@[expose] public section

set_option maxRecDepth 16384

noncomputable section

namespace Cert.MixOutIdeal.Out

open Cert.MixOutIdeal Cert.MixOutIdeal.Gen
open Idealize.ShloMosaic

/-- The identity matrix of the heads. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- The matrix of ones of a head's channels. -/
def full : FVec Ideal S64x64 .f32 := broadcastInDim S64x64 ![] bcast_S_S64x64 (constant S_ .f32 0x3F800000#32)

/-- Their Kronecker product, by head and channel of the row and of the column. -/
def blocks : FVec Ideal S8x64x8x64 .f32 :=
  mulf (broadcastInDim S8x64x8x64 ![0, 1, 2, 3] bcast_S8x1x8x1_S8x64x8x64_0_1_2_3 (broadcastInDim S8x1x8x1 ![0, 2] bcast_S8x8_S8x1x8x1_0_2 eye))
    (broadcastInDim S8x64x8x64 ![0, 1, 2, 3] bcast_S1x64x1x64_S8x64x8x64_0_1_2_3 (broadcastInDim S1x64x1x64 ![1, 3] bcast_S64x64_S1x64x1x64_1_3 full))

/-- The matrix. -/
def ones : FVec Ideal S512x512 .bf16 := truncf .bf16 (shapeCast S512x512 blocks shapeCasts_S8x64x8x64_S512x512) bitsLt_bf16_f32

/-- The identity's entry. -/
theorem eye_apply (g h : Fin 8) : eye (ix2 g h) = if g = h then 1 else 0 := by
  have e : (cmpi .eq (addi (iotaInDim S8x8 32 0) (broadcastInDim S8x8 ![] bcast_S_S8x8 (constantI S_ 32 0#32))) (iotaInDim S8x8 32 1) : IVec S8x8 1) (ix2 g h)
      = if g = h then 1#1 else 0#1 := by
    revert g h
    decide
  unfold eye
  refine (congrArg (fun w : BitVec 1 => ((w.toNat : ℝ) : EReal)) e).trans ?_
  split <;> simp

/-- An entry of the product. -/
theorem blocks_apply (g : Fin 8) (a : Fin 64) (h : Fin 8) (b : Fin 64) : blocks (ix4 g a h b) = if g = h then 1 else 0 := by
  have e : blocks (ix4 g a h b) = eye (ix2 g h) * Ideal.ofBits .f32 0x3F800000#32 := by
    pointwise [blocks, full]
  rw [e, eye_apply]
  simp

/-- The matrix, at a row and a column. -/
theorem ones_apply (k n : Fin 512) : ones (ix2 k n) = Cert.Readout.within k n := by
  have e : (shapeCast S512x512 blocks shapeCasts_S8x64x8x64_S512x512) (ix2 k n)
      = blocks (ix4 ⟨k.val / 64, by omega⟩ ⟨k.val % 64, by omega⟩ ⟨n.val / 64, by omega⟩ ⟨n.val % 64, by omega⟩) :=
    shapeCast_apply _ _ _ _ (by
      rw [Shape.rowMajor_val_four, Shape.rowMajor_val_two]
      show ((k.val / 64 * 64 + k.val % 64) * 8 + n.val / 64) * 64 + n.val % 64 = k.val * 512 + n.val
      omega)
  refine e.trans ((blocks_apply _ _ _ _).trans ?_)
  unfold Cert.Readout.within
  simp [Fin.ext_iff]

end Cert.MixOutIdeal.Out

end
-- ==== Proof.Ideal.OutReference.lean ====
/- The reference's output mix over the extended reals: each row of the stream with the gated readout of the two scans' sum and
   the other two mixers' columns projected onto it. -/
module

public import proofs.«01_k».proof.Proof.Ideal.Readout
public import proofs.«01_k».proof.Proof.Gen.MixOutReferenceIdeal.Run
public import Idealize.ShloMosaic.Lib.Quiescent

@[expose] public section

set_option maxRecDepth 16384

noncomputable section

namespace Cert.MixOutReferenceIdeal.Out

open Cert.MixOutReferenceIdeal Cert.MixOutReferenceIdeal.Gen Cert.Readout
open Idealize.ShloMosaic Idealize.ShloMosaic.TcCoe Idealize.SL.Sem

variable (yf yb v bonus gate : FVec Ideal S2x16640x512 .f32) (pool four : FVec Ideal S2x16384x256 .f32) (h : FVec Ideal S2x16384x1024 .f32)
  (lg lb : FVec Ideal S512 .f32) (w : FVec Ideal S1024x1024 .f32) (g1 : FVec Ideal S2x1x1024 .f32)

/-- A latent's row of an array that holds the context's rows first. -/
def after (t : Fin 16384) : Fin 16640 := ⟨256 + t.val, by omega⟩

/-- The latents' rows of the two scans' sum, by head. -/
def heads : FVec Ideal S2x16384x8x64 .f32 :=
  shapeCast S2x16384x8x64 (extractStridedSlice S2x16384x512 ![0, 256, 0] (addf yf yb) slices_S2x16640x512_S2x16384x512_0_256_0) shapeCasts_S2x16384x512_S2x16384x8x64

/-- The mean over each head. -/
def mean (x : FVec Ideal S2x16384x8x64 .f32) : FVec Ideal S2x16384x8x1 .f32 :=
  Host.divf (broadcastInDim S2x16384x8x1 ![0, 1, 2] bcast_S2x16384x8_S2x16384x8x1_0_1_2 (Host.reduceAdd x (constant S_ .f32 0x00000000#32) reducesTo_S2x16384x8x64_S2x16384x8_d3 h_S_))
    (broadcastInDim S2x16384x8x1 ![] bcast_S_S2x16384x8x1 (constant S_ .f32 0x42800000#32))

/-- What is left of each channel. -/
def left : FVec Ideal S2x16384x8x64 .f32 :=
  subf (heads yf yb) (broadcastInDim S2x16384x8x64 ![0, 1, 2, 3] bcast_S2x16384x8x1_S2x16384x8x64_0_1_2_3 (mean (heads yf yb)))

/-- The group norm before its gains. -/
def grouped : FVec Ideal S2x16384x512 .f32 :=
  shapeCast S2x16384x512 (mulf (left yf yb) (broadcastInDim S2x16384x8x64 ![0, 1, 2, 3] bcast_S2x16384x8x1_S2x16384x8x64_0_1_2_3
    (Host.rsqrt (addf (mean (mulf (left yf yb) (left yf yb))) (broadcastInDim S2x16384x8x1 ![] bcast_S_S2x16384x8x1 (constant S_ .f32 0x3A27C5AC#32))))))
    shapeCasts_S2x16384x8x64_S2x16384x512

/-- The gated readout. -/
def readout : FVec Ideal S2x16384x512 .f32 :=
  mulf (addf (addf (mulf (grouped yf yb) (broadcastInDim S2x16384x512 ![0, 1, 2] bcast_S1x1x512_S2x16384x512_0_1_2 (broadcastInDim S1x1x512 ![2] bcast_S512_S1x1x512_2 lg)))
      (broadcastInDim S2x16384x512 ![0, 1, 2] bcast_S1x1x512_S2x16384x512_0_1_2 (broadcastInDim S1x1x512 ![2] bcast_S512_S1x1x512_2 lb)))
      (extractStridedSlice S2x16384x512 ![0, 256, 0] (mulf bonus v) slices_S2x16640x512_S2x16384x512_0_256_0))
    (extractStridedSlice S2x16384x512 ![0, 256, 0] gate slices_S2x16640x512_S2x16384x512_0_256_0)

/-- The result. -/
def out : FVec Ideal S2x16384x1024 .f32 :=
  addf h (mulf (broadcastInDim S2x16384x1024 ![0, 1, 2] bcast_S2x1x1024_S2x16384x1024_0_1_2 g1)
    (Host.dotGeneral (φ₂ := .f32) dot_S2x16384x1024_S1024x1024_S2x16384x1024_2_0_01_1_n_n none
      (concatenate S2x16384x1024 2 [⟨S2x16384x512, readout yf yb v bonus gate lg lb⟩, ⟨S2x16384x256, pool⟩, ⟨S2x16384x256, four⟩]
        concatenates_S2x16384x512_S2x16384x256_S2x16384x256_S2x16384x1024_d2) w))

/-- The two scans' sum at a latent's row. -/
def both (b : Fin 2) (t : Fin 16384) (n : Fin 512) : EReal := yf (ix3 b (after t) n) + yb (ix3 b (after t) n)

/-- A head's number, and a channel's number in its head. -/
def headOf (n : Fin 512) : Fin 8 := ⟨n.val / 64, by omega⟩
def inHead (n : Fin 512) : Fin 64 := ⟨n.val % 64, by omega⟩
def chan (i : Fin 8) (j : Fin 64) : Fin 512 := ⟨i.val * 64 + j.val, by omega⟩

theorem heads_apply (b : Fin 2) (t : Fin 16384) (i : Fin 8) (j : Fin 64) : heads yf yb (ix4 b t i j) = both yf yb b t (chan i j) := by
  pointwise [heads]
  try rfl

theorem mean_apply (x : FVec Ideal S2x16384x8x64 .f32) (b : Fin 2) (t : Fin 16384) (i : Fin 8) :
    mean x (ix4 b t i 0) = Ideal.div (∑ j, x (ix4 b t i j)) (Ideal.ofBits .f32 0x42800000#32) := by
  pointwise [mean]

theorem headAt_chan (i : Fin 8) (j k : Fin 64) : headAt (chan i j) k = chan i k :=
  Fin.ext (show (i.val * 64 + j.val) / 64 * 64 + k.val = i.val * 64 + k.val by omega)

theorem left_apply (b : Fin 2) (t : Fin 16384) (i : Fin 8) (j : Fin 64) : left yf yb (ix4 b t i j) = dev (both yf yb b t) (chan i j) := by
  have hm := mean_apply (heads yf yb) b t i
  have hh := heads_apply yf yb b t i
  rw [Finset.sum_congr rfl fun j _ => hh j] at hm
  have hx := hh j
  unfold dev headMean
  rw [Finset.sum_congr rfl fun k _ => congrArg (both yf yb b t) (headAt_chan i j k), ← hm, ← hx]
  pointwise [left]

theorem grouped_apply (b : Fin 2) (t : Fin 16384) (n : Fin 512) : grouped yf yb (ix3 b t n)
    = dev (both yf yb b t) n * Ideal.rsqrt (headVar (both yf yb b t) n + Ideal.ofBits .f32 0x3A27C5AC#32) := by
  have hl := left_apply yf yb b t (headOf n)
  have hm := mean_apply (mulf (left yf yb) (left yf yb)) b t (headOf n)
  have hn : chan (headOf n) (inHead n) = n := Fin.ext (show n.val / 64 * 64 + n.val % 64 = n.val by omega)
  have hv : mean (mulf (left yf yb) (left yf yb)) (ix4 b t (headOf n) 0) = headVar (both yf yb b t) n := by
    refine hm.trans ?_
    unfold headVar headMean
    refine congrArg (Ideal.div · _) (Finset.sum_congr rfl fun k _ => ?_)
    show left yf yb _ * left yf yb _ = _
    rw [hl k]
    rfl
  have hd : left yf yb (ix4 b t (headOf n) (inHead n)) = dev (both yf yb b t) n := (hl (inHead n)).trans (congrArg _ hn)
  rw [← hd, ← hv]
  pointwise [grouped]
  rfl

theorem readout_apply (b : Fin 2) (t : Fin 16384) (n : Fin 512) : readout yf yb v bonus gate lg lb (ix3 b t n)
    = gated (both yf yb b t) (fun n => v (ix3 b (after t) n)) (fun n => bonus (ix3 b (after t) n)) (fun n => gate (ix3 b (after t) n))
        (fun n => lg (ix1 n)) (fun n => lb (ix1 n)) n := by
  have hg := grouped_apply yf yb b t n
  unfold gated
  rw [← hg]
  pointwise [readout]
  rfl

theorem out_apply (b : Fin 2) (t : Fin 16384) (d : Fin 1024) : out yf yb v bonus gate pool four h lg lb w g1 (ix3 b t d)
    = mixed (beside (gated (both yf yb b t) (fun n => v (ix3 b (after t) n)) (fun n => bonus (ix3 b (after t) n)) (fun n => gate (ix3 b (after t) n))
        (fun n => lg (ix1 n)) (fun n => lb (ix1 n))) (fun k => pool (ix3 b t k)) (fun k => four (ix3 b t k)))
      (fun d => h (ix3 b t d)) (fun d => g1 (ix3 b 0 d)) (fun k d => w (ix2 k d)) d := by
  have hr := readout_apply yf yb v bonus gate lg lb b t
  unfold mixed
  pointwise [out]
  refine congrArg (fun s => h (ix3 b t d) + g1 (ix3 b 0 d) * s) (Finset.sum_congr rfl fun k _ => congrArg (· * w (ix2 k d)) ?_)
  unfold beside
  simp only [← hr]

/-- The run: the result at its function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.MixOutReferenceIdeal.Value.run m ρ

/-- The frame: the arguments unchanged, and no counter to move. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0 :=
  (θ_run defs _ _).mono (fun r h => ⟨fun c => (h c).2, sem_eq_zero_of_no_sems (by decide) r.2⟩) (run m ρ)

end Cert.MixOutReferenceIdeal.Out

end
-- ==== Proof.Ideal.Out.lean ====
/- The output mix over the extended reals: the array the region leaves, as a function of the arguments, and its agreement with the
   reference's. -/
module

public import proofs.«01_k».proof.Proof.Ideal.OutBody
public import proofs.«01_k».proof.Proof.Ideal.Ones
public import proofs.«01_k».proof.Proof.Ideal.OutReference
public import proofs.«01_k».proof.Proof.Gen.MixOutIdeal.Value
public import Idealize.ShloMosaic.Lib.Pipeline.ValueKit

@[expose] public section

set_option maxRecDepth 16384

noncomputable section

namespace Cert.MixOutIdeal.Out

open Cert.MixOutIdeal Cert.MixOutIdeal.Gen Cert.Readout
open Idealize.ShloMosaic Idealize.ShloMosaic.TcCoe Idealize.SL.Sem

variable (m : (ℓ : Loc nD τ sig) → Buf (Elt Ideal) ℓ) (ρ : Dev nD → PrngReg)

/-- The arguments. -/
def yf (c : Dev nD) : S2x16640x512.Idx → EReal := m ((c.tc : Thread nD τ).loc main_arg0)
def yb (c : Dev nD) : S2x16640x512.Idx → EReal := m ((c.tc : Thread nD τ).loc main_arg1)
def v (c : Dev nD) : S2x16640x512.Idx → EReal := m ((c.tc : Thread nD τ).loc main_arg2)
def bonus (c : Dev nD) : S2x16640x512.Idx → EReal := m ((c.tc : Thread nD τ).loc main_arg3)
def gate (c : Dev nD) : S2x16640x512.Idx → EReal := m ((c.tc : Thread nD τ).loc main_arg4)
def pool (c : Dev nD) : S2x16384x256.Idx → EReal := m ((c.tc : Thread nD τ).loc main_arg5)
def four (c : Dev nD) : S2x16384x256.Idx → EReal := m ((c.tc : Thread nD τ).loc main_arg6)
def stream (c : Dev nD) : S2x16384x1024.Idx → EReal := m ((c.tc : Thread nD τ).loc main_arg7)
def gains (c : Dev nD) : S512.Idx → EReal := m ((c.tc : Thread nD τ).loc main_arg8)
def shifts (c : Dev nD) : S512.Idx → EReal := m ((c.tc : Thread nD τ).loc main_arg9)
def weights (c : Dev nD) : S1024x1024.Idx → EReal := m ((c.tc : Thread nD τ).loc main_arg10)
def rate (c : Dev nD) : S2x1x1024.Idx → EReal := m ((c.tc : Thread nD τ).loc main_arg11)

/-- A latent's row of an array that holds the context's rows first. -/
def after (t : Fin 16384) : Fin 16640 := ⟨256 + t.val, by omega⟩

/-- The two scans' sum at a latent's row. -/
def both (c : Dev nD) (b : Fin 2) (t : Fin 16384) (n : Fin 512) : EReal := yf m c (ix3 b (after t) n) + yb m c (ix3 b (after t) n)

/-- A latent's mixed row. -/
def row (c : Dev nD) (b : Fin 2) (t : Fin 16384) (d : Fin 1024) : EReal :=
  mixed (beside (gated (both m c b t) (fun n => v m c (ix3 b (after t) n)) (fun n => bonus m c (ix3 b (after t) n)) (fun n => gate m c (ix3 b (after t) n))
      (fun n => gains m c (ix1 n)) (fun n => shifts m c (ix1 n))) (fun k => pool m c (ix3 b t k)) (fun k => four m c (ix3 b t k)))
    (fun d => stream m c (ix3 b t d)) (fun d => rate m c (ix3 b 0 d)) (fun k d => weights m c (ix2 k d)) d

/-- The result. -/
def result (c : Dev nD) : S2x16384x1024.Idx → EReal := fun i => row m c (i 0) (i 1) (i 2)

/-- The windows' block indices at a point: the batch entry and the block of 256 rows, one block later where the context's rows
    come first, or the whole array. -/
theorem idx0 : ∀ t : Fin cfg0.N, win0_0.index t = ![t.val / 64, t.val % 64 + 1, 0] ∧ win0_1.index t = ![t.val / 64, t.val % 64 + 1, 0]
    ∧ win0_2.index t = ![t.val / 64, t.val % 64 + 1, 0] ∧ win0_3.index t = ![t.val / 64, t.val % 64 + 1, 0]
    ∧ win0_4.index t = ![t.val / 64, t.val % 64 + 1, 0] ∧ win0_5.index t = ![t.val / 64, t.val % 64, 0] ∧ win0_6.index t = ![t.val / 64, t.val % 64, 0]
    ∧ win0_7.index t = ![t.val / 64, t.val % 64, 0] ∧ win0_8.index t = ![0, 0] ∧ win0_9.index t = ![0, 0] ∧ win0_10.index t = ![0, 0]
    ∧ win0_11.index t = ![0, 0] ∧ win0_12.index t = ![t.val / 64, 0, 0] ∧ win0_13.index t = ![t.val / 64, t.val % 64, 0] :=
  (by decide +kernel : ∀ t : Fin grid0.N, _)

/-- A point's batch entry, and a row of its block among the latents. -/
def bOf (t : Fin cfg0.N) : Fin 2 := ⟨t.val / 64, by have := lt_of_lt_of_eq t.isLt N_0; omega⟩
def rOf (t : Fin cfg0.N) (r : Fin 256) : Fin 16384 := ⟨t.val % 64 * 256 + r.val, by omega⟩

/-- What the region finds in the buffers the host writes. -/
theorem V_ones (c : Dev nD) : V m c main_v9 = ones := by
  show StableHlo.after (List.flatten [hostOps0, hostOps0_1, hostOps0_2]) (fun b => m (c, b)) (Proc.devRef .tc main_v9) = _
  simp only [List.flatten_cons, List.flatten_nil, List.append_nil, List.cons_append, List.nil_append]
  after_results
  rfl
theorem V_weights (c : Dev nD) : V m c main_v0 = weights m c := by
  show StableHlo.after (List.flatten [hostOps0, hostOps0_1, hostOps0_2]) (fun b => m (c, b)) (Proc.devRef .tc main_v0) = _
  simp only [List.flatten_cons, List.flatten_nil, List.append_nil, List.cons_append, List.nil_append]
  after_results
  rfl
theorem V_gains (c : Dev nD) : V m c main_v10 = shapeCast S1x512 (gains m c) shapeCasts_S512_S1x512 := by
  show StableHlo.after (List.flatten [hostOps0, hostOps0_1, hostOps0_2]) (fun b => m (c, b)) (Proc.devRef .tc main_v10) = _
  simp only [List.flatten_cons, List.flatten_nil, List.append_nil, List.cons_append, List.nil_append]
  after_results
  rfl
theorem V_shifts (c : Dev nD) : V m c main_v11 = shapeCast S1x512 (shifts m c) shapeCasts_S512_S1x512 := by
  show StableHlo.after (List.flatten [hostOps0, hostOps0_1, hostOps0_2]) (fun b => m (c, b)) (Proc.devRef .tc main_v11) = _
  simp only [List.flatten_cons, List.flatten_nil, List.append_nil, List.cons_append, List.nil_append]
  after_results
  rfl

/-- The region's blocks, read at a row and column. -/
theorem iblk_0 (c : Dev nD) (t : Fin cfg0.N) (r : Fin 256) (n : Fin 512) :
    (iblk m c 0 t : Vec Ideal S1x256x512 .f32) (ix3 0 r n) = yf m c (ix3 (bOf t) (after (rOf t r)) n) := by
  blk_simp [iblk]
  refine (congrFun (V_main_arg0 m c) _).trans ?_
  show yf m c _ = _
  blk_ext [idx0 t, bOf, rOf, after]
theorem iblk_1 (c : Dev nD) (t : Fin cfg0.N) (r : Fin 256) (n : Fin 512) :
    (iblk m c 1 t : Vec Ideal S1x256x512 .f32) (ix3 0 r n) = yb m c (ix3 (bOf t) (after (rOf t r)) n) := by
  blk_simp [iblk]
  refine (congrFun (V_main_arg1 m c) _).trans ?_
  show yb m c _ = _
  blk_ext [idx0 t, bOf, rOf, after]
theorem iblk_2 (c : Dev nD) (t : Fin cfg0.N) (r : Fin 256) (n : Fin 512) :
    (iblk m c 2 t : Vec Ideal S1x256x512 .f32) (ix3 0 r n) = v m c (ix3 (bOf t) (after (rOf t r)) n) := by
  blk_simp [iblk]
  refine (congrFun (V_main_arg2 m c) _).trans ?_
  show v m c _ = _
  blk_ext [idx0 t, bOf, rOf, after]
theorem iblk_3 (c : Dev nD) (t : Fin cfg0.N) (r : Fin 256) (n : Fin 512) :
    (iblk m c 3 t : Vec Ideal S1x256x512 .f32) (ix3 0 r n) = bonus m c (ix3 (bOf t) (after (rOf t r)) n) := by
  blk_simp [iblk]
  refine (congrFun (V_main_arg3 m c) _).trans ?_
  show bonus m c _ = _
  blk_ext [idx0 t, bOf, rOf, after]
theorem iblk_4 (c : Dev nD) (t : Fin cfg0.N) (r : Fin 256) (n : Fin 512) :
    (iblk m c 4 t : Vec Ideal S1x256x512 .f32) (ix3 0 r n) = gate m c (ix3 (bOf t) (after (rOf t r)) n) := by
  blk_simp [iblk]
  refine (congrFun (V_main_arg4 m c) _).trans ?_
  show gate m c _ = _
  blk_ext [idx0 t, bOf, rOf, after]
theorem iblk_5 (c : Dev nD) (t : Fin cfg0.N) (r : Fin 256) (k : Fin 256) :
    (iblk m c 5 t : Vec Ideal S1x256x256 .f32) (ix3 0 r k) = pool m c (ix3 (bOf t) (rOf t r) k) := by
  blk_simp [iblk]
  refine (congrFun (V_main_arg5 m c) _).trans ?_
  show pool m c _ = _
  blk_ext [idx0 t, bOf, rOf]
theorem iblk_6 (c : Dev nD) (t : Fin cfg0.N) (r : Fin 256) (k : Fin 256) :
    (iblk m c 6 t : Vec Ideal S1x256x256 .f32) (ix3 0 r k) = four m c (ix3 (bOf t) (rOf t r) k) := by
  blk_simp [iblk]
  refine (congrFun (V_main_arg6 m c) _).trans ?_
  show four m c _ = _
  blk_ext [idx0 t, bOf, rOf]
theorem iblk_7 (c : Dev nD) (t : Fin cfg0.N) (r : Fin 256) (d : Fin 1024) :
    (iblk m c 7 t : Vec Ideal S1x256x1024 .f32) (ix3 0 r d) = stream m c (ix3 (bOf t) (rOf t r) d) := by
  blk_simp [iblk]
  refine (congrFun (V_main_arg7 m c) _).trans ?_
  show stream m c _ = _
  blk_ext [idx0 t, bOf, rOf]
theorem iblk_8 (c : Dev nD) (t : Fin cfg0.N) (n : Fin 512) :
    (iblk m c 8 t : Vec Ideal S1x512 .f32) (ix2 0 n) = gains m c (ix1 n) := by
  blk_simp [iblk]
  refine (congrFun (V_gains m c) _).trans ?_
  refine Eq.trans (b := shapeCast S1x512 (gains m c) shapeCasts_S512_S1x512 (ix2 0 n)) ?_ (by pointwise)
  blk_ext [idx0 t]
theorem iblk_9 (c : Dev nD) (t : Fin cfg0.N) (n : Fin 512) :
    (iblk m c 9 t : Vec Ideal S1x512 .f32) (ix2 0 n) = shifts m c (ix1 n) := by
  blk_simp [iblk]
  refine (congrFun (V_shifts m c) _).trans ?_
  refine Eq.trans (b := shapeCast S1x512 (shifts m c) shapeCasts_S512_S1x512 (ix2 0 n)) ?_ (by pointwise)
  blk_ext [idx0 t]
theorem iblk_10 (c : Dev nD) (t : Fin cfg0.N) (k n : Fin 512) :
    (iblk m c 10 t : Vec Ideal S512x512 .bf16) (ix2 k n) = within k n := by
  blk_simp [iblk]
  refine (congrFun (V_ones m c) _).trans ?_
  refine Eq.trans ?_ (ones_apply k n)
  refine congrArg ones ?_
  blk_ext [idx0 t]
theorem iblk_11 (c : Dev nD) (t : Fin cfg0.N) (k d : Fin 1024) :
    (iblk m c 11 t : Vec Ideal S1024x1024 .bf16) (ix2 k d) = weights m c (ix2 k d) := by
  blk_simp [iblk]
  refine (congrFun (V_weights m c) _).trans ?_
  blk_ext [idx0 t]
theorem iblk_12 (c : Dev nD) (t : Fin cfg0.N) (d : Fin 1024) :
    (iblk m c 12 t : Vec Ideal S1x1x1024 .f32) (ix3 0 0 d) = rate m c (ix3 (bOf t) 0 d) := by
  blk_simp [iblk]
  refine (congrFun (V_main_arg11 m c) _).trans ?_
  show rate m c _ = _
  blk_ext [idx0 t, bOf]

/-- The body over those blocks stores the latents' mixed rows. -/
theorem block (c : Dev nD) (t : Fin cfg0.N) (r : Fin 256) (d : Fin 1024) (hy : ∀ b t n, ∃ x : ℝ, both m c b t n = x) :
    stored (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (ix3 0 r d) = row m c (bOf t) (rOf t r) d := by
  have hb : bothAt (iblk m c 0 t) (iblk m c 1 t) r = both m c (bOf t) (rOf t r) := funext fun n =>
    congrArg₂ (fun a b : EReal => a + b) (iblk_0 m c t r n) (iblk_1 m c t r n)
  refine (stored_apply _ _ _ _ _ _ _ _ _ _ _ _ _ r d (iblk_10 m c t) (fun k => hb ▸ hy (bOf t) (rOf t r) k)).trans ?_
  rw [hb, funext fun n => iblk_2 m c t r n, funext fun n => iblk_3 m c t r n, funext fun n => iblk_4 m c t r n, funext fun k => iblk_5 m c t r k,
    funext fun k => iblk_6 m c t r k, funext fun d => iblk_7 m c t r d, funext fun n => iblk_8 m c t n, funext fun n => iblk_9 m c t n,
    funext fun k => funext fun d => iblk_11 m c t k d, funext fun d => iblk_12 m c t d]
  rfl

/-- A block's index is its row and column. -/
theorem row_col {n k : ℕ} (y : Shape.Idx (⟨3, ![1, n, k]⟩ : Shape)) : y = ix3 0 (y 1) (y 2) := funext fun a => by
  match a with
  | ⟨0, _⟩ => exact Fin.eq_zero (y 0)
  | ⟨1, _⟩ => rfl
  | ⟨2, _⟩ => rfl

/-- The region leaves the result. -/
theorem final (c : Dev nD) (hy : ∀ b t n, ∃ x : ℝ, both m c b t n = x) : (dats m 0 c).arrAt 13 cfg0.N = result m c := by
  refine (dats m 0 c).arrAt_eq_of_covers 13 _ (by decide +kernel) fun t _ (y : S1x256x1024.Idx) => ?_
  blk_simp
  rw [after0_13]
  frame_out
  refine (congrArg (stored _ _ _ _ _ _ _ _ _ _ _ _ _) (row_col y)).trans ((block m c t (y 1) (y 2) hy).trans ?_)
  show result m c (ix3 (bOf t) (rOf t (y 1)) (y 2)) = _
  blk_ext [idx0 t, bOf, rOf]

/-- The run: the result array at the result, the arguments unchanged. -/
theorem run (hy : ∀ c b t n, ∃ x : ℝ, both m c b t n = x) :
    θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (final m c (hy c)), (h c).2⟩) (Cert.MixOutIdeal.Value.run_blocks m ρ)

/-- The reference's result is the same. -/
theorem out_eq_result (c : Dev nD) : Cert.MixOutReferenceIdeal.Out.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = result m c := by
  funext (i : S2x16384x1024.Idx)
  have hi : i = ix3 (i 0) (i 1) (i 2) := funext fun a => by
    match a with
    | ⟨0, _⟩ => rfl
    | ⟨1, _⟩ => rfl
    | ⟨2, _⟩ => rfl
  exact (congrArg (Cert.MixOutReferenceIdeal.Out.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) hi).trans
    (Cert.MixOutReferenceIdeal.Out.out_apply _ _ _ _ _ _ _ _ _ _ _ _ (i 0) (i 1) (i 2))

end Cert.MixOutIdeal.Out

end
-- ==== Proof.Scans.lean ====
/- What the precondition on the scans says over the extended reals: every entry of the two scans is a real. -/
module

public import proofs.«01_k».proof.Pre_scans_finite
public import proofs.«01_k».proof.Proof.Gen.Pre_scans_finite
public import Idealize.ShloMosaic.Lib.ReduceAll
public import Idealize.ShloMosaic.Lib.Pointwise
public import Idealize.ShloMosaic.Lib.WordCmp

@[expose] public section

set_option maxRecDepth 16384

noncomputable section

namespace Cert.Pre_scans_finite.Out

open Cert.Pre_scans_finite Cert.Pre_scans_finite.Gen
open Idealize.ShloMosaic

theorem infinite : Ideal.ofBits .f32 0x7F800000#32 = ⊤ := by simp [Ideal.ofBits, Ideal.ieee]

/-- A magnitude below the infinity is a real's. -/
theorem real_of_lt (x : EReal) (h : Ideal.cmp .olt (max x (-x)) (Ideal.ofBits .f32 0x7F800000#32) = 1#1) : ∃ r : ℝ, x = r := by
  rw [infinite] at h
  have h' : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  obtain ⟨h1, h2⟩ := max_lt_iff.mp h'
  induction x with
  | bot => exact absurd h2 (by simp)
  | coe r => exact ⟨r, rfl⟩
  | top => exact absurd h1 (by simp)

theorem both_of_and {a b : BitVec 1} (h : IntOp.andi a b = 1#1) : a = 1#1 ∧ b = 1#1 := by
  revert a b; decide

variable {a0 a1 a2 a3 a4 : FVec Ideal S2x16640x512 .f32} {a5 a6 : FVec Ideal S2x16384x256 .f32} {a7 : FVec Ideal S2x16384x1024 .f32}
  {a8 a9 : FVec Ideal S512 .f32} {a10 : FVec Ideal S1024x1024 .f32} {a11 : FVec Ideal S2x1x1024 .f32}

/-- The precondition holds: both scans are real. -/
theorem reals (h : fn (F := Ideal) a0 a1 a2 a3 a4 a5 a6 a7 a8 a9 a10 a11 = fun _ => 1#1) :
    (∀ i, ∃ r : ℝ, a0 i = r) ∧ ∀ i, ∃ r : ℝ, a1 i = r := by
  have e := congrFun h (fun a => a.elim0)
  obtain ⟨e0, e1⟩ := both_of_and e
  exact ⟨fun i => real_of_lt _ (Host.reduce_andi_all _ _ _ _ _ e0 i), fun i => real_of_lt _ (Host.reduce_andi_all _ _ _ _ _ e1 i)⟩

end Cert.Pre_scans_finite.Out

end
-- ==== Proof.lean ====
/- The expert call, the final norm and the input projections: both printings of each run to the end and leave their arguments, the
   idealization rewrites nothing, and over the extended reals the kernel's results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_slots_ok
public import proofs.«01_k».proof.Proof.Gen.Norm
public import proofs.«01_k».proof.Proof.Gen.Norm.Skeleton
public import proofs.«01_k».proof.Proof.Gen.Norm.Launch
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Frame
public import proofs.«01_k».proof.Proof.Gen.MixIn
public import proofs.«01_k».proof.Proof.Gen.MixIn.Skeleton
public import proofs.«01_k».proof.Proof.Gen.MixIn.Launch
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.MixInReferenceIdeal
public import proofs.«01_k».proof.Proof.Gen.MixInReferenceIdeal.Run
public import proofs.«01_k».proof.Proof.Gen.Pre_scans_finite
public import proofs.«01_k».proof.Proof.Gen.MixOut
public import proofs.«01_k».proof.Proof.Gen.MixOut.Skeleton
public import proofs.«01_k».proof.Proof.Gen.MixOut.Launch
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Words
public import proofs.«01_k».proof.Proof.Ideal.Agree
public import proofs.«01_k».proof.Proof.Ideal.Norm
public import proofs.«01_k».proof.Proof.Ideal.InRun
public import proofs.«01_k».proof.Proof.Ideal.Out
public import proofs.«01_k».proof.Proof.Scans
public import Idealize.ShloMosaic.Adequacy
public import Idealize.ShloMosaic.Init

@[expose] public section

noncomputable section

namespace Cert.Proof

open Idealize.ShloMosaic Idealize.SL.Sem Cert.Kernel

/-- The experts' value claim: the kernel's result array, and the reference's is the same at the same arguments. -/
theorem value : Cert.algebraic_KernelIdeal_ReferenceIdeal := by
  intro m g m' g' h ha
  refine ⟨Cert.KernelIdeal.Expert.result m, Cert.KernelIdeal.Expert.run m g h, ?_⟩
  refine (θ_run Cert.ReferenceIdeal.defs _ _).mono (fun r hr c => ⟨(hr c).1.trans ?_, (hr c).2⟩) (Cert.ReferenceIdeal.Expert.run m' g')
  obtain ⟨h0, h1, -, h3, h4, h5⟩ := ha c
  rw [h0, h1, h3, h4, h5]
  exact Cert.KernelIdeal.Expert.out_eq_result m c

/-- The final norm's. -/
theorem normValue : Cert.algebraic_NormIdeal_NormReferenceIdeal := by
  intro m g m' g' h ha
  refine ⟨Cert.NormIdeal.Final.result m, Cert.NormIdeal.Final.run m g, ?_⟩
  refine (θ_run Cert.NormReferenceIdeal.defs _ _).mono (fun r hr c => ⟨(hr c).1.trans ?_, (hr c).2⟩) (Cert.NormReferenceIdeal.Final.run m' g')
  obtain ⟨h0, h1⟩ := ha c
  rw [h0, h1]
  exact Cert.NormIdeal.Final.out_eq_result m c

/-- The input projections', for each of the five results. -/
theorem inValue : Cert.algebraic_MixInIdeal_MixInReferenceIdeal := by
  intro m g m' g' h ha
  refine ⟨Cert.MixInIdeal.In.rwOut m, Cert.MixInIdeal.In.poolOut m, Cert.MixInIdeal.In.fourOut m, Cert.MixInIdeal.In.poolCtxOut m,
    Cert.MixInIdeal.In.fourCtxOut m, Cert.MixInIdeal.In.run m g, ?_⟩
  refine (θ_run Cert.MixInReferenceIdeal.defs _ _).mono (fun r hr c => ?_) (Cert.MixInReferenceIdeal.In.run m' g')
  obtain ⟨h0, h1, h2, h3, h4, h5, h6, h7⟩ := ha c
  obtain ⟨e0, e1, e2, e3, e4, es⟩ := hr c
  refine ⟨e0.trans ?_, e1.trans ?_, e2.trans ?_, e3.trans ?_, e4.trans ?_, es⟩
  · rw [h0, h1, h2, h3, h4, h5, h6, h7]
    exact (Cert.MixInIdeal.In.rwOut_eq m c).symm
  · rw [h0, h2, h3, h4, h7]
    exact (Cert.MixInIdeal.In.poolOut_eq m c).symm
  · rw [h0, h2, h3, h4, h7]
    exact (Cert.MixInIdeal.In.fourOut_eq m c).symm
  · rw [h1, h2, h5, h6, h7]
    exact (Cert.MixInIdeal.In.poolCtxOut_eq m c).symm
  · rw [h1, h2, h5, h6, h7]
    exact (Cert.MixInIdeal.In.fourCtxOut_eq m c).symm

/-- The output mix's, where both scans are real. -/
theorem outValue : Cert.algebraic_MixOutIdeal_MixOutReferenceIdeal_pre_scans_finite := by
  intro m g m' g' h ha
  have hy : ∀ c b t n, ∃ x : ℝ, Cert.MixOutIdeal.Out.both m c b t n = x := fun c b t n => by
    obtain ⟨e0, e1⟩ := Cert.Pre_scans_finite.Out.reals (h c)
    obtain ⟨x, hx⟩ := e0 (ix3 b (Cert.MixOutIdeal.Out.after t) n)
    obtain ⟨y, hy⟩ := e1 (ix3 b (Cert.MixOutIdeal.Out.after t) n)
    exact ⟨x + y, (congrArg₂ (fun a b : EReal => a + b) hx hy).trans (EReal.coe_add x y).symm⟩
  refine ⟨Cert.MixOutIdeal.Out.result m, Cert.MixOutIdeal.Out.run m g hy, ?_⟩
  refine (θ_run Cert.MixOutReferenceIdeal.defs _ _).mono (fun r hr c => ⟨(hr c).1.trans ?_, (hr c).2⟩) (Cert.MixOutReferenceIdeal.Out.run m' g')
  obtain ⟨h0, h1, h2, h3, h4, h5, h6, h7, h8, h9, h10, h11⟩ := ha c
  rw [h0, h1, h2, h3, h4, h5, h6, h7, h8, h9, h10, h11]
  exact Cert.MixOutIdeal.Out.out_eq_result m c

theorem claim : Cert.Claim := ⟨Cert.Kernel.Gen.facts, Cert.KernelIdeal.Gen.facts, Cert.ReferenceIdeal.Gen.facts,
  Cert.Norm.Gen.facts, Cert.NormIdeal.Gen.facts, Cert.NormReferenceIdeal.Gen.facts,
  Cert.MixIn.Gen.facts, Cert.MixInIdeal.Gen.facts, Cert.MixInReferenceIdeal.Gen.facts,
  Cert.MixOut.Gen.facts, Cert.MixOutIdeal.Gen.facts, Cert.MixOutReferenceIdeal.Gen.facts, Cert.Pre_slots_ok.Gen.facts, Cert.Pre_scans_finite.Gen.facts,
  fun m g h => Cert.Kernel.Expert.frame m g (Cert.Kernel.Expert.ok_any m) (Cert.Kernel.Expert.hyps_of_pre m h),
  fun m g h => Cert.KernelIdeal.Expert.frame m g (Cert.KernelIdeal.Expert.ok_any m) (Cert.KernelIdeal.Expert.hyps_of_pre m h),
  fun m g _ => Cert.ReferenceIdeal.Expert.frame m g,
  fun m g _ => Cert.ReferenceIdeal.Expert.frame m g,
  fun m g _ => Cert.Norm.Gen.frame m g,
  fun m g _ => Cert.NormIdeal.Gen.frame m g,
  fun m g _ => Cert.NormReferenceIdeal.Final.frame m g,
  fun m g _ => Cert.MixIn.Gen.frame m g,
  fun m g _ => Cert.MixInIdeal.Gen.frame m g,
  fun m g _ => Cert.MixInReferenceIdeal.In.frame m g,
  fun m g _ => Cert.MixOut.Gen.frame m g,
  fun m g _ => Cert.MixOutIdeal.Gen.frame m g,
  fun m g _ => Cert.MixOutIdeal.Gen.frame m g,
  fun m g _ => Cert.MixOutReferenceIdeal.Out.frame m g,
  fun m g _ => Cert.MixOutReferenceIdeal.Out.frame m g,
  trivial, value, trivial, normValue, trivial, inValue, IdealRules.bf16_pack.statement _, outValue⟩

end Cert.Proof

end
